-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S32x32x512 : Shape := ⟨3, ![32, 32, 512]⟩
abbrev S32 : Shape := ⟨1, ![32]⟩
abbrev S_ : Shape := ⟨0, ![]⟩
abbrev S1 : Shape := ⟨1, ![1]⟩
abbrev S1x32x512 : Shape := ⟨3, ![1, 32, 512]⟩
abbrev S32x512 : Shape := ⟨2, ![32, 512]⟩

abbrev nBuf : Space → Nat
  | .hbm => 2
  | .vmem => 5
  | .smem => 0
  | _ => 0

abbrev bufTy : (tb : Table) → Fin (tcTables nBuf tb) → BufTy
  | .hbm, ⟨0, _⟩ => ⟨S1024x512, .bf16⟩
  | .hbm, ⟨1, _⟩ => ⟨S1024x512, .f32⟩
  | .local _ .vmem, ⟨0, _⟩ => ⟨S1024x512, .bf16⟩
  | .local _ .vmem, ⟨1, _⟩ => ⟨S1024x512, .f32⟩
  | .local _ .vmem, ⟨2, _⟩ => ⟨S32x32x512, .bf16⟩
  | .local _ .vmem, ⟨3, _⟩ => ⟨S32x32x512, .bf16⟩
  | .local _ .vmem, ⟨4, _⟩ => ⟨S32x32x512, .bf16⟩
  | _, _ => ⟨S1024x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4 : BitVec 32 := 1#32
  let v10 : BitVec 32 := Scalar.addi v2 c1_i32_4
  let c16_i32_5 : BitVec 32 := 16#32
  let c0_i32 : BitVec 32 := 0#32
  let v11 : BitVec 1 := Scalar.cmpi .eq c16_i32_5 c0_i32
  let c1_i32_6 : BitVec 32 := 1#32
  let v12 : BitVec 32 := Scalar.select v11 c1_i32_6 c16_i32_5
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let c1_i32_11 : BitVec 32 := 1#32
  let v21 : BitVec 32 := Scalar.muli v20 c1_i32_11
  let v22 : BitVec 32 := Scalar.addi c0_i32_12 v21
  v22.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v23 : BitVec 32 := Scalar.addi v2 c2_i32
  let c16_i32_13 : BitVec 32 := 16#32
  let c0_i32_14 : BitVec 32 := 0#32
  let v24 : BitVec 1 := Scalar.cmpi .eq c16_i32_13 c0_i32_14
  let c1_i32_15 : BitVec 32 := 1#32
  let v25 : BitVec 32 := Scalar.select v24 c1_i32_15 c16_i32_13
  let v26 : BitVec 32 := Scalar.remsi v23 v25
  let c0_i32_17 : BitVec 32 := 0#32
  let v28 : BitVec 1 := Scalar.cmpi .slt v26 c0_i32_17
  let c0_i32_18 : BitVec 32 := 0#32
  let v29 : BitVec 1 := Scalar.cmpi .slt v25 c0_i32_18
  let v30 : BitVec 1 := Scalar.xori v28 v29
  let c0_i32_16 : BitVec 32 := 0#32
  let v27 : BitVec 1 := Scalar.cmpi .ne v26 c0_i32_16
  let v31 : BitVec 1 := Scalar.andi v30 v27
  let v32 : BitVec 32 := Scalar.addi v26 v25
  let v33 : BitVec 32 := Scalar.select v31 v32 v26
  let c1_i32_20 : BitVec 32 := 1#32
  let v34 : BitVec 32 := Scalar.muli v33 c1_i32_20
  let v35 : BitVec 32 := Scalar.addi c0_i32_21 v34
  v35.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v36 : BitVec 32 := Scalar.addi v2 c3_i32
  let c16_i32_22 : BitVec 32 := 16#32
  let c0_i32_23 : BitVec 32 := 0#32
  let v37 : BitVec 1 := Scalar.cmpi .eq c16_i32_22 c0_i32_23
  let c1_i32_24 : BitVec 32 := 1#32
  let v38 : BitVec 32 := Scalar.select v37 c1_i32_24 c16_i32_22
  let v39 : BitVec 32 := Scalar.remsi v36 v38
  let c0_i32_26 : BitVec 32 := 0#32
  let v41 : BitVec 1 := Scalar.cmpi .slt v39 c0_i32_26
  let c0_i32_27 : BitVec 32 := 0#32
  let v42 : BitVec 1 := Scalar.cmpi .slt v38 c0_i32_27
  let v43 : BitVec 1 := Scalar.xori v41 v42
  let c0_i32_25 : BitVec 32 := 0#32
  let v40 : BitVec 1 := Scalar.cmpi .ne v39 c0_i32_25
  let v44 : BitVec 1 := Scalar.andi v43 v40
  let v45 : BitVec 32 := Scalar.addi v39 v38
  let v46 : BitVec 32 := Scalar.select v44 v45 v39
  let c1_i32_29 : BitVec 32 := 1#32
  let v47 : BitVec 32 := Scalar.muli v46 c1_i32_29
  let v48 : BitVec 32 := Scalar.addi c0_i32_30 v47
  v48.toNat
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v49 : BitVec 32 := Scalar.addi v2 c4_i32
  let c16_i32_31 : BitVec 32 := 16#32
  let c0_i32_32 : BitVec 32 := 0#32
  let v50 : BitVec 1 := Scalar.cmpi .eq c16_i32_31 c0_i32_32
  let c1_i32_33 : BitVec 32 := 1#32
  let v51 : BitVec 32 := Scalar.select v50 c1_i32_33 c16_i32_31
  let v52 : BitVec 32 := Scalar.remsi v49 v51
  let c0_i32_35 : BitVec 32 := 0#32
  let v54 : BitVec 1 := Scalar.cmpi .slt v52 c0_i32_35
  let c0_i32_36 : BitVec 32 := 0#32
  let v55 : BitVec 1 := Scalar.cmpi .slt v51 c0_i32_36
  let v56 : BitVec 1 := Scalar.xori v54 v55
  let c0_i32_34 : BitVec 32 := 0#32
  let v53 : BitVec 1 := Scalar.cmpi .ne v52 c0_i32_34
  let v57 : BitVec 1 := Scalar.andi v56 v53
  let v58 : BitVec 32 := Scalar.addi v52 v51
  let v59 : BitVec 32 := Scalar.select v57 v58 v52
  let c1_i32_38 : BitVec 32 := 1#32
  let v60 : BitVec 32 := Scalar.muli v59 c1_i32_38
  let v61 : BitVec 32 := Scalar.addi c0_i32_39 v60
  v61.toNat
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v62 : BitVec 32 := Scalar.addi v2 c5_i32
  let c16_i32_40 : BitVec 32 := 16#32
  let c0_i32_41 : BitVec 32 := 0#32
  let v63 : BitVec 1 := Scalar.cmpi .eq c16_i32_40 c0_i32_41
  let c1_i32_42 : BitVec 32 := 1#32
  let v64 : BitVec 32 := Scalar.select v63 c1_i32_42 c16_i32_40
  let v65 : BitVec 32 := Scalar.remsi v62 v64
  let c0_i32_44 : BitVec 32 := 0#32
  let v67 : BitVec 1 := Scalar.cmpi .slt v65 c0_i32_44
  let c0_i32_45 : BitVec 32 := 0#32
  let v68 : BitVec 1 := Scalar.cmpi .slt v64 c0_i32_45
  let v69 : BitVec 1 := Scalar.xori v67 v68
  let c0_i32_43 : BitVec 32 := 0#32
  let v66 : BitVec 1 := Scalar.cmpi .ne v65 c0_i32_43
  let v70 : BitVec 1 := Scalar.andi v69 v66
  let v71 : BitVec 32 := Scalar.addi v65 v64
  let v72 : BitVec 32 := Scalar.select v70 v71 v65
  let c1_i32_47 : BitVec 32 := 1#32
  let v73 : BitVec 32 := Scalar.muli v72 c1_i32_47
  let v74 : BitVec 32 := Scalar.addi c0_i32_48 v73
  v74.toNat
def k0_dev6 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v75 : BitVec 32 := Scalar.addi v2 c6_i32
  let c16_i32_49 : BitVec 32 := 16#32
  let c0_i32_50 : BitVec 32 := 0#32
  let v76 : BitVec 1 := Scalar.cmpi .eq c16_i32_49 c0_i32_50
  let c1_i32_51 : BitVec 32 := 1#32
  let v77 : BitVec 32 := Scalar.select v76 c1_i32_51 c16_i32_49
  let v78 : BitVec 32 := Scalar.remsi v75 v77
  let c0_i32_53 : BitVec 32 := 0#32
  let v80 : BitVec 1 := Scalar.cmpi .slt v78 c0_i32_53
  let c0_i32_54 : BitVec 32 := 0#32
  let v81 : BitVec 1 := Scalar.cmpi .slt v77 c0_i32_54
  let v82 : BitVec 1 := Scalar.xori v80 v81
  let c0_i32_52 : BitVec 32 := 0#32
  let v79 : BitVec 1 := Scalar.cmpi .ne v78 c0_i32_52
  let v83 : BitVec 1 := Scalar.andi v82 v79
  let v84 : BitVec 32 := Scalar.addi v78 v77
  let v85 : BitVec 32 := Scalar.select v83 v84 v78
  let c1_i32_56 : BitVec 32 := 1#32
  let v86 : BitVec 32 := Scalar.muli v85 c1_i32_56
  let v87 : BitVec 32 := Scalar.addi c0_i32_57 v86
  v87.toNat
def k0_dev7 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v88 : BitVec 32 := Scalar.addi v2 c7_i32
  let c16_i32_58 : BitVec 32 := 16#32
  let c0_i32_59 : BitVec 32 := 0#32
  let v89 : BitVec 1 := Scalar.cmpi .eq c16_i32_58 c0_i32_59
  let c1_i32_60 : BitVec 32 := 1#32
  let v90 : BitVec 32 := Scalar.select v89 c1_i32_60 c16_i32_58
  let v91 : BitVec 32 := Scalar.remsi v88 v90
  let c0_i32_62 : BitVec 32 := 0#32
  let v93 : BitVec 1 := Scalar.cmpi .slt v91 c0_i32_62
  let c0_i32_63 : BitVec 32 := 0#32
  let v94 : BitVec 1 := Scalar.cmpi .slt v90 c0_i32_63
  let v95 : BitVec 1 := Scalar.xori v93 v94
  let c0_i32_61 : BitVec 32 := 0#32
  let v92 : BitVec 1 := Scalar.cmpi .ne v91 c0_i32_61
  let v96 : BitVec 1 := Scalar.andi v95 v92
  let v97 : BitVec 32 := Scalar.addi v91 v90
  let v98 : BitVec 32 := Scalar.select v96 v97 v91
  let c1_i32_65 : BitVec 32 := 1#32
  let v99 : BitVec 32 := Scalar.muli v98 c1_i32_65
  let v100 : BitVec 32 := Scalar.addi c0_i32_66 v99
  v100.toNat
def k0_dev8 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v101 : BitVec 32 := Scalar.addi v2 c8_i32
  let c16_i32_67 : BitVec 32 := 16#32
  let c0_i32_68 : BitVec 32 := 0#32
  let v102 : BitVec 1 := Scalar.cmpi .eq c16_i32_67 c0_i32_68
  let c1_i32_69 : BitVec 32 := 1#32
  let v103 : BitVec 32 := Scalar.select v102 c1_i32_69 c16_i32_67
  let v104 : BitVec 32 := Scalar.remsi v101 v103
  let c0_i32_71 : BitVec 32 := 0#32
  let v106 : BitVec 1 := Scalar.cmpi .slt v104 c0_i32_71
  let c0_i32_72 : BitVec 32 := 0#32
  let v107 : BitVec 1 := Scalar.cmpi .slt v103 c0_i32_72
  let v108 : BitVec 1 := Scalar.xori v106 v107
  let c0_i32_70 : BitVec 32 := 0#32
  let v105 : BitVec 1 := Scalar.cmpi .ne v104 c0_i32_70
  let v109 : BitVec 1 := Scalar.andi v108 v105
  let v110 : BitVec 32 := Scalar.addi v104 v103
  let v111 : BitVec 32 := Scalar.select v109 v110 v104
  let c1_i32_74 : BitVec 32 := 1#32
  let v112 : BitVec 32 := Scalar.muli v111 c1_i32_74
  let v113 : BitVec 32 := Scalar.addi c0_i32_75 v112
  v113.toNat
def k0_dev9 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v114 : BitVec 32 := Scalar.addi v2 c9_i32
  let c16_i32_76 : BitVec 32 := 16#32
  let c0_i32_77 : BitVec 32 := 0#32
  let v115 : BitVec 1 := Scalar.cmpi .eq c16_i32_76 c0_i32_77
  let c1_i32_78 : BitVec 32 := 1#32
  let v116 : BitVec 32 := Scalar.select v115 c1_i32_78 c16_i32_76
  let v117 : BitVec 32 := Scalar.remsi v114 v116
  let c0_i32_80 : BitVec 32 := 0#32
  let v119 : BitVec 1 := Scalar.cmpi .slt v117 c0_i32_80
  let c0_i32_81 : BitVec 32 := 0#32
  let v120 : BitVec 1 := Scalar.cmpi .slt v116 c0_i32_81
  let v121 : BitVec 1 := Scalar.xori v119 v120
  let c0_i32_79 : BitVec 32 := 0#32
  let v118 : BitVec 1 := Scalar.cmpi .ne v117 c0_i32_79
  let v122 : BitVec 1 := Scalar.andi v121 v118
  let v123 : BitVec 32 := Scalar.addi v117 v116
  let v124 : BitVec 32 := Scalar.select v122 v123 v117
  let c1_i32_83 : BitVec 32 := 1#32
  let v125 : BitVec 32 := Scalar.muli v124 c1_i32_83
  let v126 : BitVec 32 := Scalar.addi c0_i32_84 v125
  v126.toNat
def k0_dev10 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v127 : BitVec 32 := Scalar.addi v2 c10_i32
  let c16_i32_85 : BitVec 32 := 16#32
  let c0_i32_86 : BitVec 32 := 0#32
  let v128 : BitVec 1 := Scalar.cmpi .eq c16_i32_85 c0_i32_86
  let c1_i32_87 : BitVec 32 := 1#32
  let v129 : BitVec 32 := Scalar.select v128 c1_i32_87 c16_i32_85
  let v130 : BitVec 32 := Scalar.remsi v127 v129
  let c0_i32_89 : BitVec 32 := 0#32
  let v132 : BitVec 1 := Scalar.cmpi .slt v130 c0_i32_89
  let c0_i32_90 : BitVec 32 := 0#32
  let v133 : BitVec 1 := Scalar.cmpi .slt v129 c0_i32_90
  let v134 : BitVec 1 := Scalar.xori v132 v133
  let c0_i32_88 : BitVec 32 := 0#32
  let v131 : BitVec 1 := Scalar.cmpi .ne v130 c0_i32_88
  let v135 : BitVec 1 := Scalar.andi v134 v131
  let v136 : BitVec 32 := Scalar.addi v130 v129
  let v137 : BitVec 32 := Scalar.select v135 v136 v130
  let c1_i32_92 : BitVec 32 := 1#32
  let v138 : BitVec 32 := Scalar.muli v137 c1_i32_92
  let v139 : BitVec 32 := Scalar.addi c0_i32_93 v138
  v139.toNat
def k0_dev11 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v140 : BitVec 32 := Scalar.addi v2 c11_i32
  let c16_i32_94 : BitVec 32 := 16#32
  let c0_i32_95 : BitVec 32 := 0#32
  let v141 : BitVec 1 := Scalar.cmpi .eq c16_i32_94 c0_i32_95
  let c1_i32_96 : BitVec 32 := 1#32
  let v142 : BitVec 32 := Scalar.select v141 c1_i32_96 c16_i32_94
  let v143 : BitVec 32 := Scalar.remsi v140 v142
  let c0_i32_98 : BitVec 32 := 0#32
  let v145 : BitVec 1 := Scalar.cmpi .slt v143 c0_i32_98
  let c0_i32_99 : BitVec 32 := 0#32
  let v146 : BitVec 1 := Scalar.cmpi .slt v142 c0_i32_99
  let v147 : BitVec 1 := Scalar.xori v145 v146
  let c0_i32_97 : BitVec 32 := 0#32
  let v144 : BitVec 1 := Scalar.cmpi .ne v143 c0_i32_97
  let v148 : BitVec 1 := Scalar.andi v147 v144
  let v149 : BitVec 32 := Scalar.addi v143 v142
  let v150 : BitVec 32 := Scalar.select v148 v149 v143
  let c1_i32_101 : BitVec 32 := 1#32
  let v151 : BitVec 32 := Scalar.muli v150 c1_i32_101
  let v152 : BitVec 32 := Scalar.addi c0_i32_102 v151
  v152.toNat
def k0_dev12 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v153 : BitVec 32 := Scalar.addi v2 c12_i32
  let c16_i32_103 : BitVec 32 := 16#32
  let c0_i32_104 : BitVec 32 := 0#32
  let v154 : BitVec 1 := Scalar.cmpi .eq c16_i32_103 c0_i32_104
  let c1_i32_105 : BitVec 32 := 1#32
  let v155 : BitVec 32 := Scalar.select v154 c1_i32_105 c16_i32_103
  let v156 : BitVec 32 := Scalar.remsi v153 v155
  let c0_i32_107 : BitVec 32 := 0#32
  let v158 : BitVec 1 := Scalar.cmpi .slt v156 c0_i32_107
  let c0_i32_108 : BitVec 32 := 0#32
  let v159 : BitVec 1 := Scalar.cmpi .slt v155 c0_i32_108
  let v160 : BitVec 1 := Scalar.xori v158 v159
  let c0_i32_106 : BitVec 32 := 0#32
  let v157 : BitVec 1 := Scalar.cmpi .ne v156 c0_i32_106
  let v161 : BitVec 1 := Scalar.andi v160 v157
  let v162 : BitVec 32 := Scalar.addi v156 v155
  let v163 : BitVec 32 := Scalar.select v161 v162 v156
  let c1_i32_110 : BitVec 32 := 1#32
  let v164 : BitVec 32 := Scalar.muli v163 c1_i32_110
  let v165 : BitVec 32 := Scalar.addi c0_i32_111 v164
  v165.toNat
def k0_dev13 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v166 : BitVec 32 := Scalar.addi v2 c13_i32
  let c16_i32_112 : BitVec 32 := 16#32
  let c0_i32_113 : BitVec 32 := 0#32
  let v167 : BitVec 1 := Scalar.cmpi .eq c16_i32_112 c0_i32_113
  let c1_i32_114 : BitVec 32 := 1#32
  let v168 : BitVec 32 := Scalar.select v167 c1_i32_114 c16_i32_112
  let v169 : BitVec 32 := Scalar.remsi v166 v168
  let c0_i32_116 : BitVec 32 := 0#32
  let v171 : BitVec 1 := Scalar.cmpi .slt v169 c0_i32_116
  let c0_i32_117 : BitVec 32 := 0#32
  let v172 : BitVec 1 := Scalar.cmpi .slt v168 c0_i32_117
  let v173 : BitVec 1 := Scalar.xori v171 v172
  let c0_i32_115 : BitVec 32 := 0#32
  let v170 : BitVec 1 := Scalar.cmpi .ne v169 c0_i32_115
  let v174 : BitVec 1 := Scalar.andi v173 v170
  let v175 : BitVec 32 := Scalar.addi v169 v168
  let v176 : BitVec 32 := Scalar.select v174 v175 v169
  let c1_i32_119 : BitVec 32 := 1#32
  let v177 : BitVec 32 := Scalar.muli v176 c1_i32_119
  let v178 : BitVec 32 := Scalar.addi c0_i32_120 v177
  v178.toNat
def k0_dev14 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v179 : BitVec 32 := Scalar.addi v2 c14_i32
  let c16_i32_121 : BitVec 32 := 16#32
  let c0_i32_122 : BitVec 32 := 0#32
  let v180 : BitVec 1 := Scalar.cmpi .eq c16_i32_121 c0_i32_122
  let c1_i32_123 : BitVec 32 := 1#32
  let v181 : BitVec 32 := Scalar.select v180 c1_i32_123 c16_i32_121
  let v182 : BitVec 32 := Scalar.remsi v179 v181
  let c0_i32_125 : BitVec 32 := 0#32
  let v184 : BitVec 1 := Scalar.cmpi .slt v182 c0_i32_125
  let c0_i32_126 : BitVec 32 := 0#32
  let v185 : BitVec 1 := Scalar.cmpi .slt v181 c0_i32_126
  let v186 : BitVec 1 := Scalar.xori v184 v185
  let c0_i32_124 : BitVec 32 := 0#32
  let v183 : BitVec 1 := Scalar.cmpi .ne v182 c0_i32_124
  let v187 : BitVec 1 := Scalar.andi v186 v183
  let v188 : BitVec 32 := Scalar.addi v182 v181
  let v189 : BitVec 32 := Scalar.select v187 v188 v182
  let c1_i32_128 : BitVec 32 := 1#32
  let v190 : BitVec 32 := Scalar.muli v189 c1_i32_128
  let v191 : BitVec 32 := Scalar.addi c0_i32_129 v190
  v191.toNat
def k0_dev15 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v192 : BitVec 32 := Scalar.addi v2 c15_i32
  let c16_i32_130 : BitVec 32 := 16#32
  let c0_i32_131 : BitVec 32 := 0#32
  let v193 : BitVec 1 := Scalar.cmpi .eq c16_i32_130 c0_i32_131
  let c1_i32_132 : BitVec 32 := 1#32
  let v194 : BitVec 32 := Scalar.select v193 c1_i32_132 c16_i32_130
  let v195 : BitVec 32 := Scalar.remsi v192 v194
  let c0_i32_134 : BitVec 32 := 0#32
  let v197 : BitVec 1 := Scalar.cmpi .slt v195 c0_i32_134
  let c0_i32_135 : BitVec 32 := 0#32
  let v198 : BitVec 1 := Scalar.cmpi .slt v194 c0_i32_135
  let v199 : BitVec 1 := Scalar.xori v197 v198
  let c0_i32_133 : BitVec 32 := 0#32
  let v196 : BitVec 1 := Scalar.cmpi .ne v195 c0_i32_133
  let v200 : BitVec 1 := Scalar.andi v199 v196
  let v201 : BitVec 32 := Scalar.addi v195 v194
  let v202 : BitVec 32 := Scalar.select v200 v201 v195
  let c1_i32_137 : BitVec 32 := 1#32
  let v203 : BitVec 32 := Scalar.muli v202 c1_i32_137
  let v204 : BitVec 32 := Scalar.addi c0_i32_138 v203
  v204.toNat
def k0_off1 (d0 : Dev nD) (c0_i32_152 : BitVec 32) : Fin 1 → Nat :=
  let c2_i32_151 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v220 : BitVec 32 := Scalar.muli c2_i32_151 v2
  let v221 : BitVec 32 := Scalar.addi v220 c0_i32_152
  ![v221.toNat]
def k0_off2 (d0 : Dev nD) (c0_i32_150 : BitVec 32) : Fin 3 → Nat :=
  let c2_i32_149 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v218 : BitVec 32 := Scalar.muli c2_i32_149 v2
  let v219 : BitVec 32 := Scalar.addi v218 c0_i32_150
  let c0_i32_156 : BitVec 32 := 0#32
  let c0_i32_157 : BitVec 32 := 0#32
  ![v219.toNat, 0, 0]
def k0_off3 (d0 : Dev nD) (c1_i32_140 : BitVec 32) (c0_i32_148 : BitVec 32) : Fin 3 → Nat :=
  let c2_i32_147 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v205 : BitVec 32 := Scalar.addi v2 c1_i32_140
  let c16_i32_141 : BitVec 32 := 16#32
  let c0_i32_142 : BitVec 32 := 0#32
  let v206 : BitVec 1 := Scalar.cmpi .eq c16_i32_141 c0_i32_142
  let c1_i32_143 : BitVec 32 := 1#32
  let v207 : BitVec 32 := Scalar.select v206 c1_i32_143 c16_i32_141
  let v208 : BitVec 32 := Scalar.remsi v205 v207
  let c0_i32_145 : BitVec 32 := 0#32
  let v210 : BitVec 1 := Scalar.cmpi .slt v208 c0_i32_145
  let c0_i32_146 : BitVec 32 := 0#32
  let v211 : BitVec 1 := Scalar.cmpi .slt v207 c0_i32_146
  let v212 : BitVec 1 := Scalar.xori v210 v211
  let c0_i32_144 : BitVec 32 := 0#32
  let v209 : BitVec 1 := Scalar.cmpi .ne v208 c0_i32_144
  let v213 : BitVec 1 := Scalar.andi v212 v209
  let v214 : BitVec 32 := Scalar.addi v208 v207
  let v215 : BitVec 32 := Scalar.select v213 v214 v208
  let v216 : BitVec 32 := Scalar.muli c2_i32_147 v215
  let v217 : BitVec 32 := Scalar.addi v216 c0_i32_148
  let c0_i32_158 : BitVec 32 := 0#32
  let c0_i32_159 : BitVec 32 := 0#32
  ![v217.toNat, 0, 0]
def k0_dev16 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_140 : BitVec 32 := 1#32
  let v205 : BitVec 32 := Scalar.addi v2 c1_i32_140
  let c16_i32_141 : BitVec 32 := 16#32
  let c0_i32_142 : BitVec 32 := 0#32
  let v206 : BitVec 1 := Scalar.cmpi .eq c16_i32_141 c0_i32_142
  let c1_i32_143 : BitVec 32 := 1#32
  let v207 : BitVec 32 := Scalar.select v206 c1_i32_143 c16_i32_141
  let v208 : BitVec 32 := Scalar.remsi v205 v207
  let c0_i32_145 : BitVec 32 := 0#32
  let v210 : BitVec 1 := Scalar.cmpi .slt v208 c0_i32_145
  let c0_i32_146 : BitVec 32 := 0#32
  let v211 : BitVec 1 := Scalar.cmpi .slt v207 c0_i32_146
  let v212 : BitVec 1 := Scalar.xori v210 v211
  let c0_i32_144 : BitVec 32 := 0#32
  let v209 : BitVec 1 := Scalar.cmpi .ne v208 c0_i32_144
  let v213 : BitVec 1 := Scalar.andi v212 v209
  let v214 : BitVec 32 := Scalar.addi v208 v207
  let v215 : BitVec 32 := Scalar.select v213 v214 v208
  let c1_i32_154 : BitVec 32 := 1#32
  let v222 : BitVec 32 := Scalar.muli v215 c1_i32_154
  let v223 : BitVec 32 := Scalar.addi c0_i32_155 v222
  v223.toNat
def k0_dev17 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_160 : BitVec 32 := 2#32
  let v232 : BitVec 32 := Scalar.addi v2 c2_i32_160
  let c16_i32_161 : BitVec 32 := 16#32
  let c0_i32_162 : BitVec 32 := 0#32
  let v233 : BitVec 1 := Scalar.cmpi .eq c16_i32_161 c0_i32_162
  let c1_i32_163 : BitVec 32 := 1#32
  let v234 : BitVec 32 := Scalar.select v233 c1_i32_163 c16_i32_161
  let v235 : BitVec 32 := Scalar.remsi v232 v234
  let c0_i32_165 : BitVec 32 := 0#32
  let v237 : BitVec 1 := Scalar.cmpi .slt v235 c0_i32_165
  let c0_i32_166 : BitVec 32 := 0#32
  let v238 : BitVec 1 := Scalar.cmpi .slt v234 c0_i32_166
  let v239 : BitVec 1 := Scalar.xori v237 v238
  let c0_i32_164 : BitVec 32 := 0#32
  let v236 : BitVec 1 := Scalar.cmpi .ne v235 c0_i32_164
  let v240 : BitVec 1 := Scalar.andi v239 v236
  let v241 : BitVec 32 := Scalar.addi v235 v234
  let v242 : BitVec 32 := Scalar.select v240 v241 v235
  let c1_i32_174 : BitVec 32 := 1#32
  let v249 : BitVec 32 := Scalar.muli v242 c1_i32_174
  let v250 : BitVec 32 := Scalar.addi c0_i32_175 v249
  v250.toNat
def k0_dev18 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_180 : BitVec 32 := 3#32
  let v259 : BitVec 32 := Scalar.addi v2 c3_i32_180
  let c16_i32_181 : BitVec 32 := 16#32
  let c0_i32_182 : BitVec 32 := 0#32
  let v260 : BitVec 1 := Scalar.cmpi .eq c16_i32_181 c0_i32_182
  let c1_i32_183 : BitVec 32 := 1#32
  let v261 : BitVec 32 := Scalar.select v260 c1_i32_183 c16_i32_181
  let v262 : BitVec 32 := Scalar.remsi v259 v261
  let c0_i32_185 : BitVec 32 := 0#32
  let v264 : BitVec 1 := Scalar.cmpi .slt v262 c0_i32_185
  let c0_i32_186 : BitVec 32 := 0#32
  let v265 : BitVec 1 := Scalar.cmpi .slt v261 c0_i32_186
  let v266 : BitVec 1 := Scalar.xori v264 v265
  let c0_i32_184 : BitVec 32 := 0#32
  let v263 : BitVec 1 := Scalar.cmpi .ne v262 c0_i32_184
  let v267 : BitVec 1 := Scalar.andi v266 v263
  let v268 : BitVec 32 := Scalar.addi v262 v261
  let v269 : BitVec 32 := Scalar.select v267 v268 v262
  let c1_i32_194 : BitVec 32 := 1#32
  let v276 : BitVec 32 := Scalar.muli v269 c1_i32_194
  let v277 : BitVec 32 := Scalar.addi c0_i32_195 v276
  v277.toNat
def k0_dev19 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_200 : BitVec 32 := 4#32
  let v286 : BitVec 32 := Scalar.addi v2 c4_i32_200
  let c16_i32_201 : BitVec 32 := 16#32
  let c0_i32_202 : BitVec 32 := 0#32
  let v287 : BitVec 1 := Scalar.cmpi .eq c16_i32_201 c0_i32_202
  let c1_i32_203 : BitVec 32 := 1#32
  let v288 : BitVec 32 := Scalar.select v287 c1_i32_203 c16_i32_201
  let v289 : BitVec 32 := Scalar.remsi v286 v288
  let c0_i32_205 : BitVec 32 := 0#32
  let v291 : BitVec 1 := Scalar.cmpi .slt v289 c0_i32_205
  let c0_i32_206 : BitVec 32 := 0#32
  let v292 : BitVec 1 := Scalar.cmpi .slt v288 c0_i32_206
  let v293 : BitVec 1 := Scalar.xori v291 v292
  let c0_i32_204 : BitVec 32 := 0#32
  let v290 : BitVec 1 := Scalar.cmpi .ne v289 c0_i32_204
  let v294 : BitVec 1 := Scalar.andi v293 v290
  let v295 : BitVec 32 := Scalar.addi v289 v288
  let v296 : BitVec 32 := Scalar.select v294 v295 v289
  let c1_i32_214 : BitVec 32 := 1#32
  let v303 : BitVec 32 := Scalar.muli v296 c1_i32_214
  let v304 : BitVec 32 := Scalar.addi c0_i32_215 v303
  v304.toNat
def k0_dev20 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_220 : BitVec 32 := 5#32
  let v313 : BitVec 32 := Scalar.addi v2 c5_i32_220
  let c16_i32_221 : BitVec 32 := 16#32
  let c0_i32_222 : BitVec 32 := 0#32
  let v314 : BitVec 1 := Scalar.cmpi .eq c16_i32_221 c0_i32_222
  let c1_i32_223 : BitVec 32 := 1#32
  let v315 : BitVec 32 := Scalar.select v314 c1_i32_223 c16_i32_221
  let v316 : BitVec 32 := Scalar.remsi v313 v315
  let c0_i32_225 : BitVec 32 := 0#32
  let v318 : BitVec 1 := Scalar.cmpi .slt v316 c0_i32_225
  let c0_i32_226 : BitVec 32 := 0#32
  let v319 : BitVec 1 := Scalar.cmpi .slt v315 c0_i32_226
  let v320 : BitVec 1 := Scalar.xori v318 v319
  let c0_i32_224 : BitVec 32 := 0#32
  let v317 : BitVec 1 := Scalar.cmpi .ne v316 c0_i32_224
  let v321 : BitVec 1 := Scalar.andi v320 v317
  let v322 : BitVec 32 := Scalar.addi v316 v315
  let v323 : BitVec 32 := Scalar.select v321 v322 v316
  let c1_i32_234 : BitVec 32 := 1#32
  let v330 : BitVec 32 := Scalar.muli v323 c1_i32_234
  let v331 : BitVec 32 := Scalar.addi c0_i32_235 v330
  v331.toNat
def k0_dev21 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_240 : BitVec 32 := 6#32
  let v340 : BitVec 32 := Scalar.addi v2 c6_i32_240
  let c16_i32_241 : BitVec 32 := 16#32
  let c0_i32_242 : BitVec 32 := 0#32
  let v341 : BitVec 1 := Scalar.cmpi .eq c16_i32_241 c0_i32_242
  let c1_i32_243 : BitVec 32 := 1#32
  let v342 : BitVec 32 := Scalar.select v341 c1_i32_243 c16_i32_241
  let v343 : BitVec 32 := Scalar.remsi v340 v342
  let c0_i32_245 : BitVec 32 := 0#32
  let v345 : BitVec 1 := Scalar.cmpi .slt v343 c0_i32_245
  let c0_i32_246 : BitVec 32 := 0#32
  let v346 : BitVec 1 := Scalar.cmpi .slt v342 c0_i32_246
  let v347 : BitVec 1 := Scalar.xori v345 v346
  let c0_i32_244 : BitVec 32 := 0#32
  let v344 : BitVec 1 := Scalar.cmpi .ne v343 c0_i32_244
  let v348 : BitVec 1 := Scalar.andi v347 v344
  let v349 : BitVec 32 := Scalar.addi v343 v342
  let v350 : BitVec 32 := Scalar.select v348 v349 v343
  let c1_i32_254 : BitVec 32 := 1#32
  let v357 : BitVec 32 := Scalar.muli v350 c1_i32_254
  let v358 : BitVec 32 := Scalar.addi c0_i32_255 v357
  v358.toNat
def k0_dev22 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_260 : BitVec 32 := 7#32
  let v367 : BitVec 32 := Scalar.addi v2 c7_i32_260
  let c16_i32_261 : BitVec 32 := 16#32
  let c0_i32_262 : BitVec 32 := 0#32
  let v368 : BitVec 1 := Scalar.cmpi .eq c16_i32_261 c0_i32_262
  let c1_i32_263 : BitVec 32 := 1#32
  let v369 : BitVec 32 := Scalar.select v368 c1_i32_263 c16_i32_261
  let v370 : BitVec 32 := Scalar.remsi v367 v369
  let c0_i32_265 : BitVec 32 := 0#32
  let v372 : BitVec 1 := Scalar.cmpi .slt v370 c0_i32_265
  let c0_i32_266 : BitVec 32 := 0#32
  let v373 : BitVec 1 := Scalar.cmpi .slt v369 c0_i32_266
  let v374 : BitVec 1 := Scalar.xori v372 v373
  let c0_i32_264 : BitVec 32 := 0#32
  let v371 : BitVec 1 := Scalar.cmpi .ne v370 c0_i32_264
  let v375 : BitVec 1 := Scalar.andi v374 v371
  let v376 : BitVec 32 := Scalar.addi v370 v369
  let v377 : BitVec 32 := Scalar.select v375 v376 v370
  let c1_i32_274 : BitVec 32 := 1#32
  let v384 : BitVec 32 := Scalar.muli v377 c1_i32_274
  let v385 : BitVec 32 := Scalar.addi c0_i32_275 v384
  v385.toNat
def k0_dev23 (d0 : Dev nD) : Nat :=
  let c0_i32_295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_280 : BitVec 32 := 8#32
  let v394 : BitVec 32 := Scalar.addi v2 c8_i32_280
  let c16_i32_281 : BitVec 32 := 16#32
  let c0_i32_282 : BitVec 32 := 0#32
  let v395 : BitVec 1 := Scalar.cmpi .eq c16_i32_281 c0_i32_282
  let c1_i32_283 : BitVec 32 := 1#32
  let v396 : BitVec 32 := Scalar.select v395 c1_i32_283 c16_i32_281
  let v397 : BitVec 32 := Scalar.remsi v394 v396
  let c0_i32_285 : BitVec 32 := 0#32
  let v399 : BitVec 1 := Scalar.cmpi .slt v397 c0_i32_285
  let c0_i32_286 : BitVec 32 := 0#32
  let v400 : BitVec 1 := Scalar.cmpi .slt v396 c0_i32_286
  let v401 : BitVec 1 := Scalar.xori v399 v400
  let c0_i32_284 : BitVec 32 := 0#32
  let v398 : BitVec 1 := Scalar.cmpi .ne v397 c0_i32_284
  let v402 : BitVec 1 := Scalar.andi v401 v398
  let v403 : BitVec 32 := Scalar.addi v397 v396
  let v404 : BitVec 32 := Scalar.select v402 v403 v397
  let c1_i32_294 : BitVec 32 := 1#32
  let v411 : BitVec 32 := Scalar.muli v404 c1_i32_294
  let v412 : BitVec 32 := Scalar.addi c0_i32_295 v411
  v412.toNat
def k0_dev24 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_300 : BitVec 32 := 9#32
  let v421 : BitVec 32 := Scalar.addi v2 c9_i32_300
  let c16_i32_301 : BitVec 32 := 16#32
  let c0_i32_302 : BitVec 32 := 0#32
  let v422 : BitVec 1 := Scalar.cmpi .eq c16_i32_301 c0_i32_302
  let c1_i32_303 : BitVec 32 := 1#32
  let v423 : BitVec 32 := Scalar.select v422 c1_i32_303 c16_i32_301
  let v424 : BitVec 32 := Scalar.remsi v421 v423
  let c0_i32_305 : BitVec 32 := 0#32
  let v426 : BitVec 1 := Scalar.cmpi .slt v424 c0_i32_305
  let c0_i32_306 : BitVec 32 := 0#32
  let v427 : BitVec 1 := Scalar.cmpi .slt v423 c0_i32_306
  let v428 : BitVec 1 := Scalar.xori v426 v427
  let c0_i32_304 : BitVec 32 := 0#32
  let v425 : BitVec 1 := Scalar.cmpi .ne v424 c0_i32_304
  let v429 : BitVec 1 := Scalar.andi v428 v425
  let v430 : BitVec 32 := Scalar.addi v424 v423
  let v431 : BitVec 32 := Scalar.select v429 v430 v424
  let c1_i32_313 : BitVec 32 := 1#32
  let v438 : BitVec 32 := Scalar.muli v431 c1_i32_313
  let v439 : BitVec 32 := Scalar.addi c0_i32_314 v438
  v439.toNat
def k0_dev25 (d0 : Dev nD) : Nat :=
  let c0_i32_333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_319 : BitVec 32 := 10#32
  let v448 : BitVec 32 := Scalar.addi v2 c10_i32_319
  let c16_i32_320 : BitVec 32 := 16#32
  let c0_i32_321 : BitVec 32 := 0#32
  let v449 : BitVec 1 := Scalar.cmpi .eq c16_i32_320 c0_i32_321
  let c1_i32_322 : BitVec 32 := 1#32
  let v450 : BitVec 32 := Scalar.select v449 c1_i32_322 c16_i32_320
  let v451 : BitVec 32 := Scalar.remsi v448 v450
  let c0_i32_324 : BitVec 32 := 0#32
  let v453 : BitVec 1 := Scalar.cmpi .slt v451 c0_i32_324
  let c0_i32_325 : BitVec 32 := 0#32
  let v454 : BitVec 1 := Scalar.cmpi .slt v450 c0_i32_325
  let v455 : BitVec 1 := Scalar.xori v453 v454
  let c0_i32_323 : BitVec 32 := 0#32
  let v452 : BitVec 1 := Scalar.cmpi .ne v451 c0_i32_323
  let v456 : BitVec 1 := Scalar.andi v455 v452
  let v457 : BitVec 32 := Scalar.addi v451 v450
  let v458 : BitVec 32 := Scalar.select v456 v457 v451
  let c1_i32_332 : BitVec 32 := 1#32
  let v465 : BitVec 32 := Scalar.muli v458 c1_i32_332
  let v466 : BitVec 32 := Scalar.addi c0_i32_333 v465
  v466.toNat
def k0_dev26 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_338 : BitVec 32 := 11#32
  let v475 : BitVec 32 := Scalar.addi v2 c11_i32_338
  let c16_i32_339 : BitVec 32 := 16#32
  let c0_i32_340 : BitVec 32 := 0#32
  let v476 : BitVec 1 := Scalar.cmpi .eq c16_i32_339 c0_i32_340
  let c1_i32_341 : BitVec 32 := 1#32
  let v477 : BitVec 32 := Scalar.select v476 c1_i32_341 c16_i32_339
  let v478 : BitVec 32 := Scalar.remsi v475 v477
  let c0_i32_343 : BitVec 32 := 0#32
  let v480 : BitVec 1 := Scalar.cmpi .slt v478 c0_i32_343
  let c0_i32_344 : BitVec 32 := 0#32
  let v481 : BitVec 1 := Scalar.cmpi .slt v477 c0_i32_344
  let v482 : BitVec 1 := Scalar.xori v480 v481
  let c0_i32_342 : BitVec 32 := 0#32
  let v479 : BitVec 1 := Scalar.cmpi .ne v478 c0_i32_342
  let v483 : BitVec 1 := Scalar.andi v482 v479
  let v484 : BitVec 32 := Scalar.addi v478 v477
  let v485 : BitVec 32 := Scalar.select v483 v484 v478
  let c1_i32_351 : BitVec 32 := 1#32
  let v492 : BitVec 32 := Scalar.muli v485 c1_i32_351
  let v493 : BitVec 32 := Scalar.addi c0_i32_352 v492
  v493.toNat
def k0_dev27 (d0 : Dev nD) : Nat :=
  let c0_i32_371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_357 : BitVec 32 := 12#32
  let v502 : BitVec 32 := Scalar.addi v2 c12_i32_357
  let c16_i32_358 : BitVec 32 := 16#32
  let c0_i32_359 : BitVec 32 := 0#32
  let v503 : BitVec 1 := Scalar.cmpi .eq c16_i32_358 c0_i32_359
  let c1_i32_360 : BitVec 32 := 1#32
  let v504 : BitVec 32 := Scalar.select v503 c1_i32_360 c16_i32_358
  let v505 : BitVec 32 := Scalar.remsi v502 v504
  let c0_i32_362 : BitVec 32 := 0#32
  let v507 : BitVec 1 := Scalar.cmpi .slt v505 c0_i32_362
  let c0_i32_363 : BitVec 32 := 0#32
  let v508 : BitVec 1 := Scalar.cmpi .slt v504 c0_i32_363
  let v509 : BitVec 1 := Scalar.xori v507 v508
  let c0_i32_361 : BitVec 32 := 0#32
  let v506 : BitVec 1 := Scalar.cmpi .ne v505 c0_i32_361
  let v510 : BitVec 1 := Scalar.andi v509 v506
  let v511 : BitVec 32 := Scalar.addi v505 v504
  let v512 : BitVec 32 := Scalar.select v510 v511 v505
  let c1_i32_370 : BitVec 32 := 1#32
  let v519 : BitVec 32 := Scalar.muli v512 c1_i32_370
  let v520 : BitVec 32 := Scalar.addi c0_i32_371 v519
  v520.toNat
def k0_dev28 (d0 : Dev nD) : Nat :=
  let c0_i32_390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_376 : BitVec 32 := 13#32
  let v529 : BitVec 32 := Scalar.addi v2 c13_i32_376
  let c16_i32_377 : BitVec 32 := 16#32
  let c0_i32_378 : BitVec 32 := 0#32
  let v530 : BitVec 1 := Scalar.cmpi .eq c16_i32_377 c0_i32_378
  let c1_i32_379 : BitVec 32 := 1#32
  let v531 : BitVec 32 := Scalar.select v530 c1_i32_379 c16_i32_377
  let v532 : BitVec 32 := Scalar.remsi v529 v531
  let c0_i32_381 : BitVec 32 := 0#32
  let v534 : BitVec 1 := Scalar.cmpi .slt v532 c0_i32_381
  let c0_i32_382 : BitVec 32 := 0#32
  let v535 : BitVec 1 := Scalar.cmpi .slt v531 c0_i32_382
  let v536 : BitVec 1 := Scalar.xori v534 v535
  let c0_i32_380 : BitVec 32 := 0#32
  let v533 : BitVec 1 := Scalar.cmpi .ne v532 c0_i32_380
  let v537 : BitVec 1 := Scalar.andi v536 v533
  let v538 : BitVec 32 := Scalar.addi v532 v531
  let v539 : BitVec 32 := Scalar.select v537 v538 v532
  let c1_i32_389 : BitVec 32 := 1#32
  let v546 : BitVec 32 := Scalar.muli v539 c1_i32_389
  let v547 : BitVec 32 := Scalar.addi c0_i32_390 v546
  v547.toNat
def k0_dev29 (d0 : Dev nD) : Nat :=
  let c0_i32_409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_395 : BitVec 32 := 14#32
  let v556 : BitVec 32 := Scalar.addi v2 c14_i32_395
  let c16_i32_396 : BitVec 32 := 16#32
  let c0_i32_397 : BitVec 32 := 0#32
  let v557 : BitVec 1 := Scalar.cmpi .eq c16_i32_396 c0_i32_397
  let c1_i32_398 : BitVec 32 := 1#32
  let v558 : BitVec 32 := Scalar.select v557 c1_i32_398 c16_i32_396
  let v559 : BitVec 32 := Scalar.remsi v556 v558
  let c0_i32_400 : BitVec 32 := 0#32
  let v561 : BitVec 1 := Scalar.cmpi .slt v559 c0_i32_400
  let c0_i32_401 : BitVec 32 := 0#32
  let v562 : BitVec 1 := Scalar.cmpi .slt v558 c0_i32_401
  let v563 : BitVec 1 := Scalar.xori v561 v562
  let c0_i32_399 : BitVec 32 := 0#32
  let v560 : BitVec 1 := Scalar.cmpi .ne v559 c0_i32_399
  let v564 : BitVec 1 := Scalar.andi v563 v560
  let v565 : BitVec 32 := Scalar.addi v559 v558
  let v566 : BitVec 32 := Scalar.select v564 v565 v559
  let c1_i32_408 : BitVec 32 := 1#32
  let v573 : BitVec 32 := Scalar.muli v566 c1_i32_408
  let v574 : BitVec 32 := Scalar.addi c0_i32_409 v573
  v574.toNat
def k0_dev30 (d0 : Dev nD) : Nat :=
  let c0_i32_428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_414 : BitVec 32 := 15#32
  let v583 : BitVec 32 := Scalar.addi v2 c15_i32_414
  let c16_i32_415 : BitVec 32 := 16#32
  let c0_i32_416 : BitVec 32 := 0#32
  let v584 : BitVec 1 := Scalar.cmpi .eq c16_i32_415 c0_i32_416
  let c1_i32_417 : BitVec 32 := 1#32
  let v585 : BitVec 32 := Scalar.select v584 c1_i32_417 c16_i32_415
  let v586 : BitVec 32 := Scalar.remsi v583 v585
  let c0_i32_419 : BitVec 32 := 0#32
  let v588 : BitVec 1 := Scalar.cmpi .slt v586 c0_i32_419
  let c0_i32_420 : BitVec 32 := 0#32
  let v589 : BitVec 1 := Scalar.cmpi .slt v585 c0_i32_420
  let v590 : BitVec 1 := Scalar.xori v588 v589
  let c0_i32_418 : BitVec 32 := 0#32
  let v587 : BitVec 1 := Scalar.cmpi .ne v586 c0_i32_418
  let v591 : BitVec 1 := Scalar.andi v590 v587
  let v592 : BitVec 32 := Scalar.addi v586 v585
  let v593 : BitVec 32 := Scalar.select v591 v592 v586
  let c1_i32_427 : BitVec 32 := 1#32
  let v600 : BitVec 32 := Scalar.muli v593 c1_i32_427
  let v601 : BitVec 32 := Scalar.addi c0_i32_428 v600
  v601.toNat
def k0_dev31 (d0 : Dev nD) : Nat :=
  let c0_i32_448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_433 : BitVec 32 := 1#32
  let v610 : BitVec 32 := Scalar.addi v2 c1_i32_433
  let c16_i32_434 : BitVec 32 := 16#32
  let c0_i32_435 : BitVec 32 := 0#32
  let v611 : BitVec 1 := Scalar.cmpi .eq c16_i32_434 c0_i32_435
  let c1_i32_436 : BitVec 32 := 1#32
  let v612 : BitVec 32 := Scalar.select v611 c1_i32_436 c16_i32_434
  let v613 : BitVec 32 := Scalar.remsi v610 v612
  let c0_i32_438 : BitVec 32 := 0#32
  let v615 : BitVec 1 := Scalar.cmpi .slt v613 c0_i32_438
  let c0_i32_439 : BitVec 32 := 0#32
  let v616 : BitVec 1 := Scalar.cmpi .slt v612 c0_i32_439
  let v617 : BitVec 1 := Scalar.xori v615 v616
  let c0_i32_437 : BitVec 32 := 0#32
  let v614 : BitVec 1 := Scalar.cmpi .ne v613 c0_i32_437
  let v618 : BitVec 1 := Scalar.andi v617 v614
  let v619 : BitVec 32 := Scalar.addi v613 v612
  let v620 : BitVec 32 := Scalar.select v618 v619 v613
  let c1_i32_447 : BitVec 32 := 1#32
  let v627 : BitVec 32 := Scalar.muli v620 c1_i32_447
  let v628 : BitVec 32 := Scalar.addi c0_i32_448 v627
  v628.toNat
def k0_dev32 (d0 : Dev nD) : Nat :=
  let c0_i32_468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_453 : BitVec 32 := 2#32
  let v637 : BitVec 32 := Scalar.addi v2 c2_i32_453
  let c16_i32_454 : BitVec 32 := 16#32
  let c0_i32_455 : BitVec 32 := 0#32
  let v638 : BitVec 1 := Scalar.cmpi .eq c16_i32_454 c0_i32_455
  let c1_i32_456 : BitVec 32 := 1#32
  let v639 : BitVec 32 := Scalar.select v638 c1_i32_456 c16_i32_454
  let v640 : BitVec 32 := Scalar.remsi v637 v639
  let c0_i32_458 : BitVec 32 := 0#32
  let v642 : BitVec 1 := Scalar.cmpi .slt v640 c0_i32_458
  let c0_i32_459 : BitVec 32 := 0#32
  let v643 : BitVec 1 := Scalar.cmpi .slt v639 c0_i32_459
  let v644 : BitVec 1 := Scalar.xori v642 v643
  let c0_i32_457 : BitVec 32 := 0#32
  let v641 : BitVec 1 := Scalar.cmpi .ne v640 c0_i32_457
  let v645 : BitVec 1 := Scalar.andi v644 v641
  let v646 : BitVec 32 := Scalar.addi v640 v639
  let v647 : BitVec 32 := Scalar.select v645 v646 v640
  let c1_i32_467 : BitVec 32 := 1#32
  let v654 : BitVec 32 := Scalar.muli v647 c1_i32_467
  let v655 : BitVec 32 := Scalar.addi c0_i32_468 v654
  v655.toNat
def k0_dev33 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_473 : BitVec 32 := 3#32
  let v664 : BitVec 32 := Scalar.addi v2 c3_i32_473
  let c16_i32_474 : BitVec 32 := 16#32
  let c0_i32_475 : BitVec 32 := 0#32
  let v665 : BitVec 1 := Scalar.cmpi .eq c16_i32_474 c0_i32_475
  let c1_i32_476 : BitVec 32 := 1#32
  let v666 : BitVec 32 := Scalar.select v665 c1_i32_476 c16_i32_474
  let v667 : BitVec 32 := Scalar.remsi v664 v666
  let c0_i32_478 : BitVec 32 := 0#32
  let v669 : BitVec 1 := Scalar.cmpi .slt v667 c0_i32_478
  let c0_i32_479 : BitVec 32 := 0#32
  let v670 : BitVec 1 := Scalar.cmpi .slt v666 c0_i32_479
  let v671 : BitVec 1 := Scalar.xori v669 v670
  let c0_i32_477 : BitVec 32 := 0#32
  let v668 : BitVec 1 := Scalar.cmpi .ne v667 c0_i32_477
  let v672 : BitVec 1 := Scalar.andi v671 v668
  let v673 : BitVec 32 := Scalar.addi v667 v666
  let v674 : BitVec 32 := Scalar.select v672 v673 v667
  let c1_i32_487 : BitVec 32 := 1#32
  let v681 : BitVec 32 := Scalar.muli v674 c1_i32_487
  let v682 : BitVec 32 := Scalar.addi c0_i32_488 v681
  v682.toNat
def k0_dev34 (d0 : Dev nD) : Nat :=
  let c0_i32_508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_493 : BitVec 32 := 4#32
  let v691 : BitVec 32 := Scalar.addi v2 c4_i32_493
  let c16_i32_494 : BitVec 32 := 16#32
  let c0_i32_495 : BitVec 32 := 0#32
  let v692 : BitVec 1 := Scalar.cmpi .eq c16_i32_494 c0_i32_495
  let c1_i32_496 : BitVec 32 := 1#32
  let v693 : BitVec 32 := Scalar.select v692 c1_i32_496 c16_i32_494
  let v694 : BitVec 32 := Scalar.remsi v691 v693
  let c0_i32_498 : BitVec 32 := 0#32
  let v696 : BitVec 1 := Scalar.cmpi .slt v694 c0_i32_498
  let c0_i32_499 : BitVec 32 := 0#32
  let v697 : BitVec 1 := Scalar.cmpi .slt v693 c0_i32_499
  let v698 : BitVec 1 := Scalar.xori v696 v697
  let c0_i32_497 : BitVec 32 := 0#32
  let v695 : BitVec 1 := Scalar.cmpi .ne v694 c0_i32_497
  let v699 : BitVec 1 := Scalar.andi v698 v695
  let v700 : BitVec 32 := Scalar.addi v694 v693
  let v701 : BitVec 32 := Scalar.select v699 v700 v694
  let c1_i32_507 : BitVec 32 := 1#32
  let v708 : BitVec 32 := Scalar.muli v701 c1_i32_507
  let v709 : BitVec 32 := Scalar.addi c0_i32_508 v708
  v709.toNat
def k0_dev35 (d0 : Dev nD) : Nat :=
  let c0_i32_528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_513 : BitVec 32 := 5#32
  let v718 : BitVec 32 := Scalar.addi v2 c5_i32_513
  let c16_i32_514 : BitVec 32 := 16#32
  let c0_i32_515 : BitVec 32 := 0#32
  let v719 : BitVec 1 := Scalar.cmpi .eq c16_i32_514 c0_i32_515
  let c1_i32_516 : BitVec 32 := 1#32
  let v720 : BitVec 32 := Scalar.select v719 c1_i32_516 c16_i32_514
  let v721 : BitVec 32 := Scalar.remsi v718 v720
  let c0_i32_518 : BitVec 32 := 0#32
  let v723 : BitVec 1 := Scalar.cmpi .slt v721 c0_i32_518
  let c0_i32_519 : BitVec 32 := 0#32
  let v724 : BitVec 1 := Scalar.cmpi .slt v720 c0_i32_519
  let v725 : BitVec 1 := Scalar.xori v723 v724
  let c0_i32_517 : BitVec 32 := 0#32
  let v722 : BitVec 1 := Scalar.cmpi .ne v721 c0_i32_517
  let v726 : BitVec 1 := Scalar.andi v725 v722
  let v727 : BitVec 32 := Scalar.addi v721 v720
  let v728 : BitVec 32 := Scalar.select v726 v727 v721
  let c1_i32_527 : BitVec 32 := 1#32
  let v735 : BitVec 32 := Scalar.muli v728 c1_i32_527
  let v736 : BitVec 32 := Scalar.addi c0_i32_528 v735
  v736.toNat
def k0_dev36 (d0 : Dev nD) : Nat :=
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_533 : BitVec 32 := 6#32
  let v745 : BitVec 32 := Scalar.addi v2 c6_i32_533
  let c16_i32_534 : BitVec 32 := 16#32
  let c0_i32_535 : BitVec 32 := 0#32
  let v746 : BitVec 1 := Scalar.cmpi .eq c16_i32_534 c0_i32_535
  let c1_i32_536 : BitVec 32 := 1#32
  let v747 : BitVec 32 := Scalar.select v746 c1_i32_536 c16_i32_534
  let v748 : BitVec 32 := Scalar.remsi v745 v747
  let c0_i32_538 : BitVec 32 := 0#32
  let v750 : BitVec 1 := Scalar.cmpi .slt v748 c0_i32_538
  let c0_i32_539 : BitVec 32 := 0#32
  let v751 : BitVec 1 := Scalar.cmpi .slt v747 c0_i32_539
  let v752 : BitVec 1 := Scalar.xori v750 v751
  let c0_i32_537 : BitVec 32 := 0#32
  let v749 : BitVec 1 := Scalar.cmpi .ne v748 c0_i32_537
  let v753 : BitVec 1 := Scalar.andi v752 v749
  let v754 : BitVec 32 := Scalar.addi v748 v747
  let v755 : BitVec 32 := Scalar.select v753 v754 v748
  let c1_i32_547 : BitVec 32 := 1#32
  let v762 : BitVec 32 := Scalar.muli v755 c1_i32_547
  let v763 : BitVec 32 := Scalar.addi c0_i32_548 v762
  v763.toNat
def k0_dev37 (d0 : Dev nD) : Nat :=
  let c0_i32_568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_553 : BitVec 32 := 7#32
  let v772 : BitVec 32 := Scalar.addi v2 c7_i32_553
  let c16_i32_554 : BitVec 32 := 16#32
  let c0_i32_555 : BitVec 32 := 0#32
  let v773 : BitVec 1 := Scalar.cmpi .eq c16_i32_554 c0_i32_555
  let c1_i32_556 : BitVec 32 := 1#32
  let v774 : BitVec 32 := Scalar.select v773 c1_i32_556 c16_i32_554
  let v775 : BitVec 32 := Scalar.remsi v772 v774
  let c0_i32_558 : BitVec 32 := 0#32
  let v777 : BitVec 1 := Scalar.cmpi .slt v775 c0_i32_558
  let c0_i32_559 : BitVec 32 := 0#32
  let v778 : BitVec 1 := Scalar.cmpi .slt v774 c0_i32_559
  let v779 : BitVec 1 := Scalar.xori v777 v778
  let c0_i32_557 : BitVec 32 := 0#32
  let v776 : BitVec 1 := Scalar.cmpi .ne v775 c0_i32_557
  let v780 : BitVec 1 := Scalar.andi v779 v776
  let v781 : BitVec 32 := Scalar.addi v775 v774
  let v782 : BitVec 32 := Scalar.select v780 v781 v775
  let c1_i32_567 : BitVec 32 := 1#32
  let v789 : BitVec 32 := Scalar.muli v782 c1_i32_567
  let v790 : BitVec 32 := Scalar.addi c0_i32_568 v789
  v790.toNat
def k0_dev38 (d0 : Dev nD) : Nat :=
  let c0_i32_587 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_573 : BitVec 32 := 8#32
  let v799 : BitVec 32 := Scalar.addi v2 c8_i32_573
  let c16_i32_574 : BitVec 32 := 16#32
  let c0_i32_575 : BitVec 32 := 0#32
  let v800 : BitVec 1 := Scalar.cmpi .eq c16_i32_574 c0_i32_575
  let c1_i32_576 : BitVec 32 := 1#32
  let v801 : BitVec 32 := Scalar.select v800 c1_i32_576 c16_i32_574
  let v802 : BitVec 32 := Scalar.remsi v799 v801
  let c0_i32_578 : BitVec 32 := 0#32
  let v804 : BitVec 1 := Scalar.cmpi .slt v802 c0_i32_578
  let c0_i32_579 : BitVec 32 := 0#32
  let v805 : BitVec 1 := Scalar.cmpi .slt v801 c0_i32_579
  let v806 : BitVec 1 := Scalar.xori v804 v805
  let c0_i32_577 : BitVec 32 := 0#32
  let v803 : BitVec 1 := Scalar.cmpi .ne v802 c0_i32_577
  let v807 : BitVec 1 := Scalar.andi v806 v803
  let v808 : BitVec 32 := Scalar.addi v802 v801
  let v809 : BitVec 32 := Scalar.select v807 v808 v802
  let c1_i32_586 : BitVec 32 := 1#32
  let v816 : BitVec 32 := Scalar.muli v809 c1_i32_586
  let v817 : BitVec 32 := Scalar.addi c0_i32_587 v816
  v817.toNat
def k0_dev39 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_592 : BitVec 32 := 9#32
  let v826 : BitVec 32 := Scalar.addi v2 c9_i32_592
  let c16_i32_593 : BitVec 32 := 16#32
  let c0_i32_594 : BitVec 32 := 0#32
  let v827 : BitVec 1 := Scalar.cmpi .eq c16_i32_593 c0_i32_594
  let c1_i32_595 : BitVec 32 := 1#32
  let v828 : BitVec 32 := Scalar.select v827 c1_i32_595 c16_i32_593
  let v829 : BitVec 32 := Scalar.remsi v826 v828
  let c0_i32_597 : BitVec 32 := 0#32
  let v831 : BitVec 1 := Scalar.cmpi .slt v829 c0_i32_597
  let c0_i32_598 : BitVec 32 := 0#32
  let v832 : BitVec 1 := Scalar.cmpi .slt v828 c0_i32_598
  let v833 : BitVec 1 := Scalar.xori v831 v832
  let c0_i32_596 : BitVec 32 := 0#32
  let v830 : BitVec 1 := Scalar.cmpi .ne v829 c0_i32_596
  let v834 : BitVec 1 := Scalar.andi v833 v830
  let v835 : BitVec 32 := Scalar.addi v829 v828
  let v836 : BitVec 32 := Scalar.select v834 v835 v829
  let c1_i32_605 : BitVec 32 := 1#32
  let v843 : BitVec 32 := Scalar.muli v836 c1_i32_605
  let v844 : BitVec 32 := Scalar.addi c0_i32_606 v843
  v844.toNat
def k0_dev40 (d0 : Dev nD) : Nat :=
  let c0_i32_625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_611 : BitVec 32 := 10#32
  let v853 : BitVec 32 := Scalar.addi v2 c10_i32_611
  let c16_i32_612 : BitVec 32 := 16#32
  let c0_i32_613 : BitVec 32 := 0#32
  let v854 : BitVec 1 := Scalar.cmpi .eq c16_i32_612 c0_i32_613
  let c1_i32_614 : BitVec 32 := 1#32
  let v855 : BitVec 32 := Scalar.select v854 c1_i32_614 c16_i32_612
  let v856 : BitVec 32 := Scalar.remsi v853 v855
  let c0_i32_616 : BitVec 32 := 0#32
  let v858 : BitVec 1 := Scalar.cmpi .slt v856 c0_i32_616
  let c0_i32_617 : BitVec 32 := 0#32
  let v859 : BitVec 1 := Scalar.cmpi .slt v855 c0_i32_617
  let v860 : BitVec 1 := Scalar.xori v858 v859
  let c0_i32_615 : BitVec 32 := 0#32
  let v857 : BitVec 1 := Scalar.cmpi .ne v856 c0_i32_615
  let v861 : BitVec 1 := Scalar.andi v860 v857
  let v862 : BitVec 32 := Scalar.addi v856 v855
  let v863 : BitVec 32 := Scalar.select v861 v862 v856
  let c1_i32_624 : BitVec 32 := 1#32
  let v870 : BitVec 32 := Scalar.muli v863 c1_i32_624
  let v871 : BitVec 32 := Scalar.addi c0_i32_625 v870
  v871.toNat
def k0_dev41 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_630 : BitVec 32 := 11#32
  let v880 : BitVec 32 := Scalar.addi v2 c11_i32_630
  let c16_i32_631 : BitVec 32 := 16#32
  let c0_i32_632 : BitVec 32 := 0#32
  let v881 : BitVec 1 := Scalar.cmpi .eq c16_i32_631 c0_i32_632
  let c1_i32_633 : BitVec 32 := 1#32
  let v882 : BitVec 32 := Scalar.select v881 c1_i32_633 c16_i32_631
  let v883 : BitVec 32 := Scalar.remsi v880 v882
  let c0_i32_635 : BitVec 32 := 0#32
  let v885 : BitVec 1 := Scalar.cmpi .slt v883 c0_i32_635
  let c0_i32_636 : BitVec 32 := 0#32
  let v886 : BitVec 1 := Scalar.cmpi .slt v882 c0_i32_636
  let v887 : BitVec 1 := Scalar.xori v885 v886
  let c0_i32_634 : BitVec 32 := 0#32
  let v884 : BitVec 1 := Scalar.cmpi .ne v883 c0_i32_634
  let v888 : BitVec 1 := Scalar.andi v887 v884
  let v889 : BitVec 32 := Scalar.addi v883 v882
  let v890 : BitVec 32 := Scalar.select v888 v889 v883
  let c1_i32_643 : BitVec 32 := 1#32
  let v897 : BitVec 32 := Scalar.muli v890 c1_i32_643
  let v898 : BitVec 32 := Scalar.addi c0_i32_644 v897
  v898.toNat
def k0_dev42 (d0 : Dev nD) : Nat :=
  let c0_i32_663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_649 : BitVec 32 := 12#32
  let v907 : BitVec 32 := Scalar.addi v2 c12_i32_649
  let c16_i32_650 : BitVec 32 := 16#32
  let c0_i32_651 : BitVec 32 := 0#32
  let v908 : BitVec 1 := Scalar.cmpi .eq c16_i32_650 c0_i32_651
  let c1_i32_652 : BitVec 32 := 1#32
  let v909 : BitVec 32 := Scalar.select v908 c1_i32_652 c16_i32_650
  let v910 : BitVec 32 := Scalar.remsi v907 v909
  let c0_i32_654 : BitVec 32 := 0#32
  let v912 : BitVec 1 := Scalar.cmpi .slt v910 c0_i32_654
  let c0_i32_655 : BitVec 32 := 0#32
  let v913 : BitVec 1 := Scalar.cmpi .slt v909 c0_i32_655
  let v914 : BitVec 1 := Scalar.xori v912 v913
  let c0_i32_653 : BitVec 32 := 0#32
  let v911 : BitVec 1 := Scalar.cmpi .ne v910 c0_i32_653
  let v915 : BitVec 1 := Scalar.andi v914 v911
  let v916 : BitVec 32 := Scalar.addi v910 v909
  let v917 : BitVec 32 := Scalar.select v915 v916 v910
  let c1_i32_662 : BitVec 32 := 1#32
  let v924 : BitVec 32 := Scalar.muli v917 c1_i32_662
  let v925 : BitVec 32 := Scalar.addi c0_i32_663 v924
  v925.toNat
def k0_dev43 (d0 : Dev nD) : Nat :=
  let c0_i32_682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_668 : BitVec 32 := 13#32
  let v934 : BitVec 32 := Scalar.addi v2 c13_i32_668
  let c16_i32_669 : BitVec 32 := 16#32
  let c0_i32_670 : BitVec 32 := 0#32
  let v935 : BitVec 1 := Scalar.cmpi .eq c16_i32_669 c0_i32_670
  let c1_i32_671 : BitVec 32 := 1#32
  let v936 : BitVec 32 := Scalar.select v935 c1_i32_671 c16_i32_669
  let v937 : BitVec 32 := Scalar.remsi v934 v936
  let c0_i32_673 : BitVec 32 := 0#32
  let v939 : BitVec 1 := Scalar.cmpi .slt v937 c0_i32_673
  let c0_i32_674 : BitVec 32 := 0#32
  let v940 : BitVec 1 := Scalar.cmpi .slt v936 c0_i32_674
  let v941 : BitVec 1 := Scalar.xori v939 v940
  let c0_i32_672 : BitVec 32 := 0#32
  let v938 : BitVec 1 := Scalar.cmpi .ne v937 c0_i32_672
  let v942 : BitVec 1 := Scalar.andi v941 v938
  let v943 : BitVec 32 := Scalar.addi v937 v936
  let v944 : BitVec 32 := Scalar.select v942 v943 v937
  let c1_i32_681 : BitVec 32 := 1#32
  let v951 : BitVec 32 := Scalar.muli v944 c1_i32_681
  let v952 : BitVec 32 := Scalar.addi c0_i32_682 v951
  v952.toNat
def k0_dev44 (d0 : Dev nD) : Nat :=
  let c0_i32_701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_687 : BitVec 32 := 14#32
  let v961 : BitVec 32 := Scalar.addi v2 c14_i32_687
  let c16_i32_688 : BitVec 32 := 16#32
  let c0_i32_689 : BitVec 32 := 0#32
  let v962 : BitVec 1 := Scalar.cmpi .eq c16_i32_688 c0_i32_689
  let c1_i32_690 : BitVec 32 := 1#32
  let v963 : BitVec 32 := Scalar.select v962 c1_i32_690 c16_i32_688
  let v964 : BitVec 32 := Scalar.remsi v961 v963
  let c0_i32_692 : BitVec 32 := 0#32
  let v966 : BitVec 1 := Scalar.cmpi .slt v964 c0_i32_692
  let c0_i32_693 : BitVec 32 := 0#32
  let v967 : BitVec 1 := Scalar.cmpi .slt v963 c0_i32_693
  let v968 : BitVec 1 := Scalar.xori v966 v967
  let c0_i32_691 : BitVec 32 := 0#32
  let v965 : BitVec 1 := Scalar.cmpi .ne v964 c0_i32_691
  let v969 : BitVec 1 := Scalar.andi v968 v965
  let v970 : BitVec 32 := Scalar.addi v964 v963
  let v971 : BitVec 32 := Scalar.select v969 v970 v964
  let c1_i32_700 : BitVec 32 := 1#32
  let v978 : BitVec 32 := Scalar.muli v971 c1_i32_700
  let v979 : BitVec 32 := Scalar.addi c0_i32_701 v978
  v979.toNat
def k0_dev45 (d0 : Dev nD) : Nat :=
  let c0_i32_720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_706 : BitVec 32 := 15#32
  let v988 : BitVec 32 := Scalar.addi v2 c15_i32_706
  let c16_i32_707 : BitVec 32 := 16#32
  let c0_i32_708 : BitVec 32 := 0#32
  let v989 : BitVec 1 := Scalar.cmpi .eq c16_i32_707 c0_i32_708
  let c1_i32_709 : BitVec 32 := 1#32
  let v990 : BitVec 32 := Scalar.select v989 c1_i32_709 c16_i32_707
  let v991 : BitVec 32 := Scalar.remsi v988 v990
  let c0_i32_711 : BitVec 32 := 0#32
  let v993 : BitVec 1 := Scalar.cmpi .slt v991 c0_i32_711
  let c0_i32_712 : BitVec 32 := 0#32
  let v994 : BitVec 1 := Scalar.cmpi .slt v990 c0_i32_712
  let v995 : BitVec 1 := Scalar.xori v993 v994
  let c0_i32_710 : BitVec 32 := 0#32
  let v992 : BitVec 1 := Scalar.cmpi .ne v991 c0_i32_710
  let v996 : BitVec 1 := Scalar.andi v995 v992
  let v997 : BitVec 32 := Scalar.addi v991 v990
  let v998 : BitVec 32 := Scalar.select v996 v997 v991
  let c1_i32_719 : BitVec 32 := 1#32
  let v1005 : BitVec 32 := Scalar.muli v998 c1_i32_719
  let v1006 : BitVec 32 := Scalar.addi c0_i32_720 v1005
  v1006.toNat
def k0_off4 (d0 : Dev nD) (c0_i32_726 : BitVec 32) : Fin 3 → Nat :=
  let c2_i32_725 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1015 : BitVec 32 := Scalar.muli c2_i32_725 v2
  let v1016 : BitVec 32 := Scalar.addi v1015 c0_i32_726
  let v1017 : Index := Scalar.indexCast v1016
  let c0_727 : Index := 0#32
  let c0_728 : Index := 0#32
  ![v1017.toNat, 0, 0]
def k0_off5 (d0 : Dev nD) (c1_i32_729 : BitVec 32) (c0_i32_739 : BitVec 32) : Fin 1 → Nat :=
  let c2_i32_738 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1021 : BitVec 32 := Scalar.addi v2 c1_i32_729
  let c16_i32_730 : BitVec 32 := 16#32
  let c0_i32_731 : BitVec 32 := 0#32
  let v1022 : BitVec 1 := Scalar.cmpi .eq c16_i32_730 c0_i32_731
  let c1_i32_732 : BitVec 32 := 1#32
  let v1023 : BitVec 32 := Scalar.select v1022 c1_i32_732 c16_i32_730
  let v1024 : BitVec 32 := Scalar.remsi v1021 v1023
  let c0_i32_734 : BitVec 32 := 0#32
  let v1026 : BitVec 1 := Scalar.cmpi .slt v1024 c0_i32_734
  let c0_i32_735 : BitVec 32 := 0#32
  let v1027 : BitVec 1 := Scalar.cmpi .slt v1023 c0_i32_735
  let v1028 : BitVec 1 := Scalar.xori v1026 v1027
  let c0_i32_733 : BitVec 32 := 0#32
  let v1025 : BitVec 1 := Scalar.cmpi .ne v1024 c0_i32_733
  let v1029 : BitVec 1 := Scalar.andi v1028 v1025
  let v1030 : BitVec 32 := Scalar.addi v1024 v1023
  let v1031 : BitVec 32 := Scalar.select v1029 v1030 v1024
  let v1034 : BitVec 32 := Scalar.muli c2_i32_738 v1031
  let v1035 : BitVec 32 := Scalar.addi v1034 c0_i32_739
  ![v1035.toNat]
def k0_off6 (d0 : Dev nD) (c1_i32_729 : BitVec 32) (c0_i32_749 : BitVec 32) : Fin 3 → Nat :=
  let c2_i32_748 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1021 : BitVec 32 := Scalar.addi v2 c1_i32_729
  let c16_i32_730 : BitVec 32 := 16#32
  let c0_i32_731 : BitVec 32 := 0#32
  let v1022 : BitVec 1 := Scalar.cmpi .eq c16_i32_730 c0_i32_731
  let c1_i32_732 : BitVec 32 := 1#32
  let v1023 : BitVec 32 := Scalar.select v1022 c1_i32_732 c16_i32_730
  let v1024 : BitVec 32 := Scalar.remsi v1021 v1023
  let c0_i32_734 : BitVec 32 := 0#32
  let v1026 : BitVec 1 := Scalar.cmpi .slt v1024 c0_i32_734
  let c0_i32_735 : BitVec 32 := 0#32
  let v1027 : BitVec 1 := Scalar.cmpi .slt v1023 c0_i32_735
  let v1028 : BitVec 1 := Scalar.xori v1026 v1027
  let c0_i32_733 : BitVec 32 := 0#32
  let v1025 : BitVec 1 := Scalar.cmpi .ne v1024 c0_i32_733
  let v1029 : BitVec 1 := Scalar.andi v1028 v1025
  let v1030 : BitVec 32 := Scalar.addi v1024 v1023
  let v1031 : BitVec 32 := Scalar.select v1029 v1030 v1024
  let v1044 : BitVec 32 := Scalar.muli c2_i32_748 v1031
  let v1045 : BitVec 32 := Scalar.addi v1044 c0_i32_749
  let v1046 : Index := Scalar.indexCast v1045
  let c0_750 : Index := 0#32
  let c0_751 : Index := 0#32
  ![v1046.toNat, 0, 0]
def k0_dev46 (d0 : Dev nD) : Nat :=
  let c0_i32_1093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1078 : BitVec 32 := 1#32
  let v1479 : BitVec 32 := Scalar.addi v2 c1_i32_1078
  let c16_i32_1079 : BitVec 32 := 16#32
  let c0_i32_1080 : BitVec 32 := 0#32
  let v1480 : BitVec 1 := Scalar.cmpi .eq c16_i32_1079 c0_i32_1080
  let c1_i32_1081 : BitVec 32 := 1#32
  let v1481 : BitVec 32 := Scalar.select v1480 c1_i32_1081 c16_i32_1079
  let v1482 : BitVec 32 := Scalar.remsi v1479 v1481
  let c0_i32_1083 : BitVec 32 := 0#32
  let v1484 : BitVec 1 := Scalar.cmpi .slt v1482 c0_i32_1083
  let c0_i32_1084 : BitVec 32 := 0#32
  let v1485 : BitVec 1 := Scalar.cmpi .slt v1481 c0_i32_1084
  let v1486 : BitVec 1 := Scalar.xori v1484 v1485
  let c0_i32_1082 : BitVec 32 := 0#32
  let v1483 : BitVec 1 := Scalar.cmpi .ne v1482 c0_i32_1082
  let v1487 : BitVec 1 := Scalar.andi v1486 v1483
  let v1488 : BitVec 32 := Scalar.addi v1482 v1481
  let v1489 : BitVec 32 := Scalar.select v1487 v1488 v1482
  let c1_i32_1092 : BitVec 32 := 1#32
  let v1496 : BitVec 32 := Scalar.muli v1489 c1_i32_1092
  let v1497 : BitVec 32 := Scalar.addi c0_i32_1093 v1496
  v1497.toNat
def k0_dev47 (d0 : Dev nD) : Nat :=
  let c0_i32_1113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1098 : BitVec 32 := 2#32
  let v1506 : BitVec 32 := Scalar.addi v2 c2_i32_1098
  let c16_i32_1099 : BitVec 32 := 16#32
  let c0_i32_1100 : BitVec 32 := 0#32
  let v1507 : BitVec 1 := Scalar.cmpi .eq c16_i32_1099 c0_i32_1100
  let c1_i32_1101 : BitVec 32 := 1#32
  let v1508 : BitVec 32 := Scalar.select v1507 c1_i32_1101 c16_i32_1099
  let v1509 : BitVec 32 := Scalar.remsi v1506 v1508
  let c0_i32_1103 : BitVec 32 := 0#32
  let v1511 : BitVec 1 := Scalar.cmpi .slt v1509 c0_i32_1103
  let c0_i32_1104 : BitVec 32 := 0#32
  let v1512 : BitVec 1 := Scalar.cmpi .slt v1508 c0_i32_1104
  let v1513 : BitVec 1 := Scalar.xori v1511 v1512
  let c0_i32_1102 : BitVec 32 := 0#32
  let v1510 : BitVec 1 := Scalar.cmpi .ne v1509 c0_i32_1102
  let v1514 : BitVec 1 := Scalar.andi v1513 v1510
  let v1515 : BitVec 32 := Scalar.addi v1509 v1508
  let v1516 : BitVec 32 := Scalar.select v1514 v1515 v1509
  let c1_i32_1112 : BitVec 32 := 1#32
  let v1523 : BitVec 32 := Scalar.muli v1516 c1_i32_1112
  let v1524 : BitVec 32 := Scalar.addi c0_i32_1113 v1523
  v1524.toNat
def k0_dev48 (d0 : Dev nD) : Nat :=
  let c0_i32_1133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1118 : BitVec 32 := 3#32
  let v1533 : BitVec 32 := Scalar.addi v2 c3_i32_1118
  let c16_i32_1119 : BitVec 32 := 16#32
  let c0_i32_1120 : BitVec 32 := 0#32
  let v1534 : BitVec 1 := Scalar.cmpi .eq c16_i32_1119 c0_i32_1120
  let c1_i32_1121 : BitVec 32 := 1#32
  let v1535 : BitVec 32 := Scalar.select v1534 c1_i32_1121 c16_i32_1119
  let v1536 : BitVec 32 := Scalar.remsi v1533 v1535
  let c0_i32_1123 : BitVec 32 := 0#32
  let v1538 : BitVec 1 := Scalar.cmpi .slt v1536 c0_i32_1123
  let c0_i32_1124 : BitVec 32 := 0#32
  let v1539 : BitVec 1 := Scalar.cmpi .slt v1535 c0_i32_1124
  let v1540 : BitVec 1 := Scalar.xori v1538 v1539
  let c0_i32_1122 : BitVec 32 := 0#32
  let v1537 : BitVec 1 := Scalar.cmpi .ne v1536 c0_i32_1122
  let v1541 : BitVec 1 := Scalar.andi v1540 v1537
  let v1542 : BitVec 32 := Scalar.addi v1536 v1535
  let v1543 : BitVec 32 := Scalar.select v1541 v1542 v1536
  let c1_i32_1132 : BitVec 32 := 1#32
  let v1550 : BitVec 32 := Scalar.muli v1543 c1_i32_1132
  let v1551 : BitVec 32 := Scalar.addi c0_i32_1133 v1550
  v1551.toNat
def k0_dev49 (d0 : Dev nD) : Nat :=
  let c0_i32_1153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1138 : BitVec 32 := 4#32
  let v1560 : BitVec 32 := Scalar.addi v2 c4_i32_1138
  let c16_i32_1139 : BitVec 32 := 16#32
  let c0_i32_1140 : BitVec 32 := 0#32
  let v1561 : BitVec 1 := Scalar.cmpi .eq c16_i32_1139 c0_i32_1140
  let c1_i32_1141 : BitVec 32 := 1#32
  let v1562 : BitVec 32 := Scalar.select v1561 c1_i32_1141 c16_i32_1139
  let v1563 : BitVec 32 := Scalar.remsi v1560 v1562
  let c0_i32_1143 : BitVec 32 := 0#32
  let v1565 : BitVec 1 := Scalar.cmpi .slt v1563 c0_i32_1143
  let c0_i32_1144 : BitVec 32 := 0#32
  let v1566 : BitVec 1 := Scalar.cmpi .slt v1562 c0_i32_1144
  let v1567 : BitVec 1 := Scalar.xori v1565 v1566
  let c0_i32_1142 : BitVec 32 := 0#32
  let v1564 : BitVec 1 := Scalar.cmpi .ne v1563 c0_i32_1142
  let v1568 : BitVec 1 := Scalar.andi v1567 v1564
  let v1569 : BitVec 32 := Scalar.addi v1563 v1562
  let v1570 : BitVec 32 := Scalar.select v1568 v1569 v1563
  let c1_i32_1152 : BitVec 32 := 1#32
  let v1577 : BitVec 32 := Scalar.muli v1570 c1_i32_1152
  let v1578 : BitVec 32 := Scalar.addi c0_i32_1153 v1577
  v1578.toNat
def k0_dev50 (d0 : Dev nD) : Nat :=
  let c0_i32_1173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1158 : BitVec 32 := 5#32
  let v1587 : BitVec 32 := Scalar.addi v2 c5_i32_1158
  let c16_i32_1159 : BitVec 32 := 16#32
  let c0_i32_1160 : BitVec 32 := 0#32
  let v1588 : BitVec 1 := Scalar.cmpi .eq c16_i32_1159 c0_i32_1160
  let c1_i32_1161 : BitVec 32 := 1#32
  let v1589 : BitVec 32 := Scalar.select v1588 c1_i32_1161 c16_i32_1159
  let v1590 : BitVec 32 := Scalar.remsi v1587 v1589
  let c0_i32_1163 : BitVec 32 := 0#32
  let v1592 : BitVec 1 := Scalar.cmpi .slt v1590 c0_i32_1163
  let c0_i32_1164 : BitVec 32 := 0#32
  let v1593 : BitVec 1 := Scalar.cmpi .slt v1589 c0_i32_1164
  let v1594 : BitVec 1 := Scalar.xori v1592 v1593
  let c0_i32_1162 : BitVec 32 := 0#32
  let v1591 : BitVec 1 := Scalar.cmpi .ne v1590 c0_i32_1162
  let v1595 : BitVec 1 := Scalar.andi v1594 v1591
  let v1596 : BitVec 32 := Scalar.addi v1590 v1589
  let v1597 : BitVec 32 := Scalar.select v1595 v1596 v1590
  let c1_i32_1172 : BitVec 32 := 1#32
  let v1604 : BitVec 32 := Scalar.muli v1597 c1_i32_1172
  let v1605 : BitVec 32 := Scalar.addi c0_i32_1173 v1604
  v1605.toNat
def k0_dev51 (d0 : Dev nD) : Nat :=
  let c0_i32_1193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1178 : BitVec 32 := 6#32
  let v1614 : BitVec 32 := Scalar.addi v2 c6_i32_1178
  let c16_i32_1179 : BitVec 32 := 16#32
  let c0_i32_1180 : BitVec 32 := 0#32
  let v1615 : BitVec 1 := Scalar.cmpi .eq c16_i32_1179 c0_i32_1180
  let c1_i32_1181 : BitVec 32 := 1#32
  let v1616 : BitVec 32 := Scalar.select v1615 c1_i32_1181 c16_i32_1179
  let v1617 : BitVec 32 := Scalar.remsi v1614 v1616
  let c0_i32_1183 : BitVec 32 := 0#32
  let v1619 : BitVec 1 := Scalar.cmpi .slt v1617 c0_i32_1183
  let c0_i32_1184 : BitVec 32 := 0#32
  let v1620 : BitVec 1 := Scalar.cmpi .slt v1616 c0_i32_1184
  let v1621 : BitVec 1 := Scalar.xori v1619 v1620
  let c0_i32_1182 : BitVec 32 := 0#32
  let v1618 : BitVec 1 := Scalar.cmpi .ne v1617 c0_i32_1182
  let v1622 : BitVec 1 := Scalar.andi v1621 v1618
  let v1623 : BitVec 32 := Scalar.addi v1617 v1616
  let v1624 : BitVec 32 := Scalar.select v1622 v1623 v1617
  let c1_i32_1192 : BitVec 32 := 1#32
  let v1631 : BitVec 32 := Scalar.muli v1624 c1_i32_1192
  let v1632 : BitVec 32 := Scalar.addi c0_i32_1193 v1631
  v1632.toNat
def k0_dev52 (d0 : Dev nD) : Nat :=
  let c0_i32_1213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1198 : BitVec 32 := 7#32
  let v1641 : BitVec 32 := Scalar.addi v2 c7_i32_1198
  let c16_i32_1199 : BitVec 32 := 16#32
  let c0_i32_1200 : BitVec 32 := 0#32
  let v1642 : BitVec 1 := Scalar.cmpi .eq c16_i32_1199 c0_i32_1200
  let c1_i32_1201 : BitVec 32 := 1#32
  let v1643 : BitVec 32 := Scalar.select v1642 c1_i32_1201 c16_i32_1199
  let v1644 : BitVec 32 := Scalar.remsi v1641 v1643
  let c0_i32_1203 : BitVec 32 := 0#32
  let v1646 : BitVec 1 := Scalar.cmpi .slt v1644 c0_i32_1203
  let c0_i32_1204 : BitVec 32 := 0#32
  let v1647 : BitVec 1 := Scalar.cmpi .slt v1643 c0_i32_1204
  let v1648 : BitVec 1 := Scalar.xori v1646 v1647
  let c0_i32_1202 : BitVec 32 := 0#32
  let v1645 : BitVec 1 := Scalar.cmpi .ne v1644 c0_i32_1202
  let v1649 : BitVec 1 := Scalar.andi v1648 v1645
  let v1650 : BitVec 32 := Scalar.addi v1644 v1643
  let v1651 : BitVec 32 := Scalar.select v1649 v1650 v1644
  let c1_i32_1212 : BitVec 32 := 1#32
  let v1658 : BitVec 32 := Scalar.muli v1651 c1_i32_1212
  let v1659 : BitVec 32 := Scalar.addi c0_i32_1213 v1658
  v1659.toNat
def k0_dev53 (d0 : Dev nD) : Nat :=
  let c0_i32_1233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1218 : BitVec 32 := 8#32
  let v1668 : BitVec 32 := Scalar.addi v2 c8_i32_1218
  let c16_i32_1219 : BitVec 32 := 16#32
  let c0_i32_1220 : BitVec 32 := 0#32
  let v1669 : BitVec 1 := Scalar.cmpi .eq c16_i32_1219 c0_i32_1220
  let c1_i32_1221 : BitVec 32 := 1#32
  let v1670 : BitVec 32 := Scalar.select v1669 c1_i32_1221 c16_i32_1219
  let v1671 : BitVec 32 := Scalar.remsi v1668 v1670
  let c0_i32_1223 : BitVec 32 := 0#32
  let v1673 : BitVec 1 := Scalar.cmpi .slt v1671 c0_i32_1223
  let c0_i32_1224 : BitVec 32 := 0#32
  let v1674 : BitVec 1 := Scalar.cmpi .slt v1670 c0_i32_1224
  let v1675 : BitVec 1 := Scalar.xori v1673 v1674
  let c0_i32_1222 : BitVec 32 := 0#32
  let v1672 : BitVec 1 := Scalar.cmpi .ne v1671 c0_i32_1222
  let v1676 : BitVec 1 := Scalar.andi v1675 v1672
  let v1677 : BitVec 32 := Scalar.addi v1671 v1670
  let v1678 : BitVec 32 := Scalar.select v1676 v1677 v1671
  let c1_i32_1232 : BitVec 32 := 1#32
  let v1685 : BitVec 32 := Scalar.muli v1678 c1_i32_1232
  let v1686 : BitVec 32 := Scalar.addi c0_i32_1233 v1685
  v1686.toNat
def k0_dev54 (d0 : Dev nD) : Nat :=
  let c0_i32_1253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1238 : BitVec 32 := 9#32
  let v1695 : BitVec 32 := Scalar.addi v2 c9_i32_1238
  let c16_i32_1239 : BitVec 32 := 16#32
  let c0_i32_1240 : BitVec 32 := 0#32
  let v1696 : BitVec 1 := Scalar.cmpi .eq c16_i32_1239 c0_i32_1240
  let c1_i32_1241 : BitVec 32 := 1#32
  let v1697 : BitVec 32 := Scalar.select v1696 c1_i32_1241 c16_i32_1239
  let v1698 : BitVec 32 := Scalar.remsi v1695 v1697
  let c0_i32_1243 : BitVec 32 := 0#32
  let v1700 : BitVec 1 := Scalar.cmpi .slt v1698 c0_i32_1243
  let c0_i32_1244 : BitVec 32 := 0#32
  let v1701 : BitVec 1 := Scalar.cmpi .slt v1697 c0_i32_1244
  let v1702 : BitVec 1 := Scalar.xori v1700 v1701
  let c0_i32_1242 : BitVec 32 := 0#32
  let v1699 : BitVec 1 := Scalar.cmpi .ne v1698 c0_i32_1242
  let v1703 : BitVec 1 := Scalar.andi v1702 v1699
  let v1704 : BitVec 32 := Scalar.addi v1698 v1697
  let v1705 : BitVec 32 := Scalar.select v1703 v1704 v1698
  let c1_i32_1252 : BitVec 32 := 1#32
  let v1712 : BitVec 32 := Scalar.muli v1705 c1_i32_1252
  let v1713 : BitVec 32 := Scalar.addi c0_i32_1253 v1712
  v1713.toNat
def k0_dev55 (d0 : Dev nD) : Nat :=
  let c0_i32_1273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1258 : BitVec 32 := 10#32
  let v1722 : BitVec 32 := Scalar.addi v2 c10_i32_1258
  let c16_i32_1259 : BitVec 32 := 16#32
  let c0_i32_1260 : BitVec 32 := 0#32
  let v1723 : BitVec 1 := Scalar.cmpi .eq c16_i32_1259 c0_i32_1260
  let c1_i32_1261 : BitVec 32 := 1#32
  let v1724 : BitVec 32 := Scalar.select v1723 c1_i32_1261 c16_i32_1259
  let v1725 : BitVec 32 := Scalar.remsi v1722 v1724
  let c0_i32_1263 : BitVec 32 := 0#32
  let v1727 : BitVec 1 := Scalar.cmpi .slt v1725 c0_i32_1263
  let c0_i32_1264 : BitVec 32 := 0#32
  let v1728 : BitVec 1 := Scalar.cmpi .slt v1724 c0_i32_1264
  let v1729 : BitVec 1 := Scalar.xori v1727 v1728
  let c0_i32_1262 : BitVec 32 := 0#32
  let v1726 : BitVec 1 := Scalar.cmpi .ne v1725 c0_i32_1262
  let v1730 : BitVec 1 := Scalar.andi v1729 v1726
  let v1731 : BitVec 32 := Scalar.addi v1725 v1724
  let v1732 : BitVec 32 := Scalar.select v1730 v1731 v1725
  let c1_i32_1272 : BitVec 32 := 1#32
  let v1739 : BitVec 32 := Scalar.muli v1732 c1_i32_1272
  let v1740 : BitVec 32 := Scalar.addi c0_i32_1273 v1739
  v1740.toNat
def k0_dev56 (d0 : Dev nD) : Nat :=
  let c0_i32_1293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1278 : BitVec 32 := 11#32
  let v1749 : BitVec 32 := Scalar.addi v2 c11_i32_1278
  let c16_i32_1279 : BitVec 32 := 16#32
  let c0_i32_1280 : BitVec 32 := 0#32
  let v1750 : BitVec 1 := Scalar.cmpi .eq c16_i32_1279 c0_i32_1280
  let c1_i32_1281 : BitVec 32 := 1#32
  let v1751 : BitVec 32 := Scalar.select v1750 c1_i32_1281 c16_i32_1279
  let v1752 : BitVec 32 := Scalar.remsi v1749 v1751
  let c0_i32_1283 : BitVec 32 := 0#32
  let v1754 : BitVec 1 := Scalar.cmpi .slt v1752 c0_i32_1283
  let c0_i32_1284 : BitVec 32 := 0#32
  let v1755 : BitVec 1 := Scalar.cmpi .slt v1751 c0_i32_1284
  let v1756 : BitVec 1 := Scalar.xori v1754 v1755
  let c0_i32_1282 : BitVec 32 := 0#32
  let v1753 : BitVec 1 := Scalar.cmpi .ne v1752 c0_i32_1282
  let v1757 : BitVec 1 := Scalar.andi v1756 v1753
  let v1758 : BitVec 32 := Scalar.addi v1752 v1751
  let v1759 : BitVec 32 := Scalar.select v1757 v1758 v1752
  let c1_i32_1292 : BitVec 32 := 1#32
  let v1766 : BitVec 32 := Scalar.muli v1759 c1_i32_1292
  let v1767 : BitVec 32 := Scalar.addi c0_i32_1293 v1766
  v1767.toNat
def k0_dev57 (d0 : Dev nD) : Nat :=
  let c0_i32_1313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1298 : BitVec 32 := 12#32
  let v1776 : BitVec 32 := Scalar.addi v2 c12_i32_1298
  let c16_i32_1299 : BitVec 32 := 16#32
  let c0_i32_1300 : BitVec 32 := 0#32
  let v1777 : BitVec 1 := Scalar.cmpi .eq c16_i32_1299 c0_i32_1300
  let c1_i32_1301 : BitVec 32 := 1#32
  let v1778 : BitVec 32 := Scalar.select v1777 c1_i32_1301 c16_i32_1299
  let v1779 : BitVec 32 := Scalar.remsi v1776 v1778
  let c0_i32_1303 : BitVec 32 := 0#32
  let v1781 : BitVec 1 := Scalar.cmpi .slt v1779 c0_i32_1303
  let c0_i32_1304 : BitVec 32 := 0#32
  let v1782 : BitVec 1 := Scalar.cmpi .slt v1778 c0_i32_1304
  let v1783 : BitVec 1 := Scalar.xori v1781 v1782
  let c0_i32_1302 : BitVec 32 := 0#32
  let v1780 : BitVec 1 := Scalar.cmpi .ne v1779 c0_i32_1302
  let v1784 : BitVec 1 := Scalar.andi v1783 v1780
  let v1785 : BitVec 32 := Scalar.addi v1779 v1778
  let v1786 : BitVec 32 := Scalar.select v1784 v1785 v1779
  let c1_i32_1312 : BitVec 32 := 1#32
  let v1793 : BitVec 32 := Scalar.muli v1786 c1_i32_1312
  let v1794 : BitVec 32 := Scalar.addi c0_i32_1313 v1793
  v1794.toNat
def k0_dev58 (d0 : Dev nD) : Nat :=
  let c0_i32_1333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1318 : BitVec 32 := 13#32
  let v1803 : BitVec 32 := Scalar.addi v2 c13_i32_1318
  let c16_i32_1319 : BitVec 32 := 16#32
  let c0_i32_1320 : BitVec 32 := 0#32
  let v1804 : BitVec 1 := Scalar.cmpi .eq c16_i32_1319 c0_i32_1320
  let c1_i32_1321 : BitVec 32 := 1#32
  let v1805 : BitVec 32 := Scalar.select v1804 c1_i32_1321 c16_i32_1319
  let v1806 : BitVec 32 := Scalar.remsi v1803 v1805
  let c0_i32_1323 : BitVec 32 := 0#32
  let v1808 : BitVec 1 := Scalar.cmpi .slt v1806 c0_i32_1323
  let c0_i32_1324 : BitVec 32 := 0#32
  let v1809 : BitVec 1 := Scalar.cmpi .slt v1805 c0_i32_1324
  let v1810 : BitVec 1 := Scalar.xori v1808 v1809
  let c0_i32_1322 : BitVec 32 := 0#32
  let v1807 : BitVec 1 := Scalar.cmpi .ne v1806 c0_i32_1322
  let v1811 : BitVec 1 := Scalar.andi v1810 v1807
  let v1812 : BitVec 32 := Scalar.addi v1806 v1805
  let v1813 : BitVec 32 := Scalar.select v1811 v1812 v1806
  let c1_i32_1332 : BitVec 32 := 1#32
  let v1820 : BitVec 32 := Scalar.muli v1813 c1_i32_1332
  let v1821 : BitVec 32 := Scalar.addi c0_i32_1333 v1820
  v1821.toNat
def k0_dev59 (d0 : Dev nD) : Nat :=
  let c0_i32_1353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1338 : BitVec 32 := 14#32
  let v1830 : BitVec 32 := Scalar.addi v2 c14_i32_1338
  let c16_i32_1339 : BitVec 32 := 16#32
  let c0_i32_1340 : BitVec 32 := 0#32
  let v1831 : BitVec 1 := Scalar.cmpi .eq c16_i32_1339 c0_i32_1340
  let c1_i32_1341 : BitVec 32 := 1#32
  let v1832 : BitVec 32 := Scalar.select v1831 c1_i32_1341 c16_i32_1339
  let v1833 : BitVec 32 := Scalar.remsi v1830 v1832
  let c0_i32_1343 : BitVec 32 := 0#32
  let v1835 : BitVec 1 := Scalar.cmpi .slt v1833 c0_i32_1343
  let c0_i32_1344 : BitVec 32 := 0#32
  let v1836 : BitVec 1 := Scalar.cmpi .slt v1832 c0_i32_1344
  let v1837 : BitVec 1 := Scalar.xori v1835 v1836
  let c0_i32_1342 : BitVec 32 := 0#32
  let v1834 : BitVec 1 := Scalar.cmpi .ne v1833 c0_i32_1342
  let v1838 : BitVec 1 := Scalar.andi v1837 v1834
  let v1839 : BitVec 32 := Scalar.addi v1833 v1832
  let v1840 : BitVec 32 := Scalar.select v1838 v1839 v1833
  let c1_i32_1352 : BitVec 32 := 1#32
  let v1847 : BitVec 32 := Scalar.muli v1840 c1_i32_1352
  let v1848 : BitVec 32 := Scalar.addi c0_i32_1353 v1847
  v1848.toNat
def k0_dev60 (d0 : Dev nD) : Nat :=
  let c0_i32_1373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1358 : BitVec 32 := 15#32
  let v1857 : BitVec 32 := Scalar.addi v2 c15_i32_1358
  let c16_i32_1359 : BitVec 32 := 16#32
  let c0_i32_1360 : BitVec 32 := 0#32
  let v1858 : BitVec 1 := Scalar.cmpi .eq c16_i32_1359 c0_i32_1360
  let c1_i32_1361 : BitVec 32 := 1#32
  let v1859 : BitVec 32 := Scalar.select v1858 c1_i32_1361 c16_i32_1359
  let v1860 : BitVec 32 := Scalar.remsi v1857 v1859
  let c0_i32_1363 : BitVec 32 := 0#32
  let v1862 : BitVec 1 := Scalar.cmpi .slt v1860 c0_i32_1363
  let c0_i32_1364 : BitVec 32 := 0#32
  let v1863 : BitVec 1 := Scalar.cmpi .slt v1859 c0_i32_1364
  let v1864 : BitVec 1 := Scalar.xori v1862 v1863
  let c0_i32_1362 : BitVec 32 := 0#32
  let v1861 : BitVec 1 := Scalar.cmpi .ne v1860 c0_i32_1362
  let v1865 : BitVec 1 := Scalar.andi v1864 v1861
  let v1866 : BitVec 32 := Scalar.addi v1860 v1859
  let v1867 : BitVec 32 := Scalar.select v1865 v1866 v1860
  let c1_i32_1372 : BitVec 32 := 1#32
  let v1874 : BitVec 32 := Scalar.muli v1867 c1_i32_1372
  let v1875 : BitVec 32 := Scalar.addi c0_i32_1373 v1874
  v1875.toNat
def k0_off7 (d0 : Dev nD) (c0_i32_1378 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v1884 : BitVec 32 := Scalar.muli v2 c64_i32
  let v1885 : BitVec 32 := Scalar.addi v1884 c0_i32_1378
  let v1886 : Index := Scalar.indexCast v1885
  let c0_1379 : Index := 0#32
  ![v1886.toNat, 0]
def k0_dev61 (d0 : Dev nD) : Nat :=
  let c0_i32_1748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1733 : BitVec 32 := 1#32
  let v2352 : BitVec 32 := Scalar.addi v2 c1_i32_1733
  let c16_i32_1734 : BitVec 32 := 16#32
  let c0_i32_1735 : BitVec 32 := 0#32
  let v2353 : BitVec 1 := Scalar.cmpi .eq c16_i32_1734 c0_i32_1735
  let c1_i32_1736 : BitVec 32 := 1#32
  let v2354 : BitVec 32 := Scalar.select v2353 c1_i32_1736 c16_i32_1734
  let v2355 : BitVec 32 := Scalar.remsi v2352 v2354
  let c0_i32_1738 : BitVec 32 := 0#32
  let v2357 : BitVec 1 := Scalar.cmpi .slt v2355 c0_i32_1738
  let c0_i32_1739 : BitVec 32 := 0#32
  let v2358 : BitVec 1 := Scalar.cmpi .slt v2354 c0_i32_1739
  let v2359 : BitVec 1 := Scalar.xori v2357 v2358
  let c0_i32_1737 : BitVec 32 := 0#32
  let v2356 : BitVec 1 := Scalar.cmpi .ne v2355 c0_i32_1737
  let v2360 : BitVec 1 := Scalar.andi v2359 v2356
  let v2361 : BitVec 32 := Scalar.addi v2355 v2354
  let v2362 : BitVec 32 := Scalar.select v2360 v2361 v2355
  let c1_i32_1747 : BitVec 32 := 1#32
  let v2369 : BitVec 32 := Scalar.muli v2362 c1_i32_1747
  let v2370 : BitVec 32 := Scalar.addi c0_i32_1748 v2369
  v2370.toNat
def k0_dev62 (d0 : Dev nD) : Nat :=
  let c0_i32_1768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1753 : BitVec 32 := 2#32
  let v2379 : BitVec 32 := Scalar.addi v2 c2_i32_1753
  let c16_i32_1754 : BitVec 32 := 16#32
  let c0_i32_1755 : BitVec 32 := 0#32
  let v2380 : BitVec 1 := Scalar.cmpi .eq c16_i32_1754 c0_i32_1755
  let c1_i32_1756 : BitVec 32 := 1#32
  let v2381 : BitVec 32 := Scalar.select v2380 c1_i32_1756 c16_i32_1754
  let v2382 : BitVec 32 := Scalar.remsi v2379 v2381
  let c0_i32_1758 : BitVec 32 := 0#32
  let v2384 : BitVec 1 := Scalar.cmpi .slt v2382 c0_i32_1758
  let c0_i32_1759 : BitVec 32 := 0#32
  let v2385 : BitVec 1 := Scalar.cmpi .slt v2381 c0_i32_1759
  let v2386 : BitVec 1 := Scalar.xori v2384 v2385
  let c0_i32_1757 : BitVec 32 := 0#32
  let v2383 : BitVec 1 := Scalar.cmpi .ne v2382 c0_i32_1757
  let v2387 : BitVec 1 := Scalar.andi v2386 v2383
  let v2388 : BitVec 32 := Scalar.addi v2382 v2381
  let v2389 : BitVec 32 := Scalar.select v2387 v2388 v2382
  let c1_i32_1767 : BitVec 32 := 1#32
  let v2396 : BitVec 32 := Scalar.muli v2389 c1_i32_1767
  let v2397 : BitVec 32 := Scalar.addi c0_i32_1768 v2396
  v2397.toNat
def k0_dev63 (d0 : Dev nD) : Nat :=
  let c0_i32_1788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1773 : BitVec 32 := 3#32
  let v2406 : BitVec 32 := Scalar.addi v2 c3_i32_1773
  let c16_i32_1774 : BitVec 32 := 16#32
  let c0_i32_1775 : BitVec 32 := 0#32
  let v2407 : BitVec 1 := Scalar.cmpi .eq c16_i32_1774 c0_i32_1775
  let c1_i32_1776 : BitVec 32 := 1#32
  let v2408 : BitVec 32 := Scalar.select v2407 c1_i32_1776 c16_i32_1774
  let v2409 : BitVec 32 := Scalar.remsi v2406 v2408
  let c0_i32_1778 : BitVec 32 := 0#32
  let v2411 : BitVec 1 := Scalar.cmpi .slt v2409 c0_i32_1778
  let c0_i32_1779 : BitVec 32 := 0#32
  let v2412 : BitVec 1 := Scalar.cmpi .slt v2408 c0_i32_1779
  let v2413 : BitVec 1 := Scalar.xori v2411 v2412
  let c0_i32_1777 : BitVec 32 := 0#32
  let v2410 : BitVec 1 := Scalar.cmpi .ne v2409 c0_i32_1777
  let v2414 : BitVec 1 := Scalar.andi v2413 v2410
  let v2415 : BitVec 32 := Scalar.addi v2409 v2408
  let v2416 : BitVec 32 := Scalar.select v2414 v2415 v2409
  let c1_i32_1787 : BitVec 32 := 1#32
  let v2423 : BitVec 32 := Scalar.muli v2416 c1_i32_1787
  let v2424 : BitVec 32 := Scalar.addi c0_i32_1788 v2423
  v2424.toNat
def k0_dev64 (d0 : Dev nD) : Nat :=
  let c0_i32_1808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1793 : BitVec 32 := 4#32
  let v2433 : BitVec 32 := Scalar.addi v2 c4_i32_1793
  let c16_i32_1794 : BitVec 32 := 16#32
  let c0_i32_1795 : BitVec 32 := 0#32
  let v2434 : BitVec 1 := Scalar.cmpi .eq c16_i32_1794 c0_i32_1795
  let c1_i32_1796 : BitVec 32 := 1#32
  let v2435 : BitVec 32 := Scalar.select v2434 c1_i32_1796 c16_i32_1794
  let v2436 : BitVec 32 := Scalar.remsi v2433 v2435
  let c0_i32_1798 : BitVec 32 := 0#32
  let v2438 : BitVec 1 := Scalar.cmpi .slt v2436 c0_i32_1798
  let c0_i32_1799 : BitVec 32 := 0#32
  let v2439 : BitVec 1 := Scalar.cmpi .slt v2435 c0_i32_1799
  let v2440 : BitVec 1 := Scalar.xori v2438 v2439
  let c0_i32_1797 : BitVec 32 := 0#32
  let v2437 : BitVec 1 := Scalar.cmpi .ne v2436 c0_i32_1797
  let v2441 : BitVec 1 := Scalar.andi v2440 v2437
  let v2442 : BitVec 32 := Scalar.addi v2436 v2435
  let v2443 : BitVec 32 := Scalar.select v2441 v2442 v2436
  let c1_i32_1807 : BitVec 32 := 1#32
  let v2450 : BitVec 32 := Scalar.muli v2443 c1_i32_1807
  let v2451 : BitVec 32 := Scalar.addi c0_i32_1808 v2450
  v2451.toNat
def k0_dev65 (d0 : Dev nD) : Nat :=
  let c0_i32_1828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1813 : BitVec 32 := 5#32
  let v2460 : BitVec 32 := Scalar.addi v2 c5_i32_1813
  let c16_i32_1814 : BitVec 32 := 16#32
  let c0_i32_1815 : BitVec 32 := 0#32
  let v2461 : BitVec 1 := Scalar.cmpi .eq c16_i32_1814 c0_i32_1815
  let c1_i32_1816 : BitVec 32 := 1#32
  let v2462 : BitVec 32 := Scalar.select v2461 c1_i32_1816 c16_i32_1814
  let v2463 : BitVec 32 := Scalar.remsi v2460 v2462
  let c0_i32_1818 : BitVec 32 := 0#32
  let v2465 : BitVec 1 := Scalar.cmpi .slt v2463 c0_i32_1818
  let c0_i32_1819 : BitVec 32 := 0#32
  let v2466 : BitVec 1 := Scalar.cmpi .slt v2462 c0_i32_1819
  let v2467 : BitVec 1 := Scalar.xori v2465 v2466
  let c0_i32_1817 : BitVec 32 := 0#32
  let v2464 : BitVec 1 := Scalar.cmpi .ne v2463 c0_i32_1817
  let v2468 : BitVec 1 := Scalar.andi v2467 v2464
  let v2469 : BitVec 32 := Scalar.addi v2463 v2462
  let v2470 : BitVec 32 := Scalar.select v2468 v2469 v2463
  let c1_i32_1827 : BitVec 32 := 1#32
  let v2477 : BitVec 32 := Scalar.muli v2470 c1_i32_1827
  let v2478 : BitVec 32 := Scalar.addi c0_i32_1828 v2477
  v2478.toNat
def k0_dev66 (d0 : Dev nD) : Nat :=
  let c0_i32_1848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1833 : BitVec 32 := 6#32
  let v2487 : BitVec 32 := Scalar.addi v2 c6_i32_1833
  let c16_i32_1834 : BitVec 32 := 16#32
  let c0_i32_1835 : BitVec 32 := 0#32
  let v2488 : BitVec 1 := Scalar.cmpi .eq c16_i32_1834 c0_i32_1835
  let c1_i32_1836 : BitVec 32 := 1#32
  let v2489 : BitVec 32 := Scalar.select v2488 c1_i32_1836 c16_i32_1834
  let v2490 : BitVec 32 := Scalar.remsi v2487 v2489
  let c0_i32_1838 : BitVec 32 := 0#32
  let v2492 : BitVec 1 := Scalar.cmpi .slt v2490 c0_i32_1838
  let c0_i32_1839 : BitVec 32 := 0#32
  let v2493 : BitVec 1 := Scalar.cmpi .slt v2489 c0_i32_1839
  let v2494 : BitVec 1 := Scalar.xori v2492 v2493
  let c0_i32_1837 : BitVec 32 := 0#32
  let v2491 : BitVec 1 := Scalar.cmpi .ne v2490 c0_i32_1837
  let v2495 : BitVec 1 := Scalar.andi v2494 v2491
  let v2496 : BitVec 32 := Scalar.addi v2490 v2489
  let v2497 : BitVec 32 := Scalar.select v2495 v2496 v2490
  let c1_i32_1847 : BitVec 32 := 1#32
  let v2504 : BitVec 32 := Scalar.muli v2497 c1_i32_1847
  let v2505 : BitVec 32 := Scalar.addi c0_i32_1848 v2504
  v2505.toNat
def k0_dev67 (d0 : Dev nD) : Nat :=
  let c0_i32_1868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1853 : BitVec 32 := 7#32
  let v2514 : BitVec 32 := Scalar.addi v2 c7_i32_1853
  let c16_i32_1854 : BitVec 32 := 16#32
  let c0_i32_1855 : BitVec 32 := 0#32
  let v2515 : BitVec 1 := Scalar.cmpi .eq c16_i32_1854 c0_i32_1855
  let c1_i32_1856 : BitVec 32 := 1#32
  let v2516 : BitVec 32 := Scalar.select v2515 c1_i32_1856 c16_i32_1854
  let v2517 : BitVec 32 := Scalar.remsi v2514 v2516
  let c0_i32_1858 : BitVec 32 := 0#32
  let v2519 : BitVec 1 := Scalar.cmpi .slt v2517 c0_i32_1858
  let c0_i32_1859 : BitVec 32 := 0#32
  let v2520 : BitVec 1 := Scalar.cmpi .slt v2516 c0_i32_1859
  let v2521 : BitVec 1 := Scalar.xori v2519 v2520
  let c0_i32_1857 : BitVec 32 := 0#32
  let v2518 : BitVec 1 := Scalar.cmpi .ne v2517 c0_i32_1857
  let v2522 : BitVec 1 := Scalar.andi v2521 v2518
  let v2523 : BitVec 32 := Scalar.addi v2517 v2516
  let v2524 : BitVec 32 := Scalar.select v2522 v2523 v2517
  let c1_i32_1867 : BitVec 32 := 1#32
  let v2531 : BitVec 32 := Scalar.muli v2524 c1_i32_1867
  let v2532 : BitVec 32 := Scalar.addi c0_i32_1868 v2531
  v2532.toNat
def k0_dev68 (d0 : Dev nD) : Nat :=
  let c0_i32_1888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1873 : BitVec 32 := 8#32
  let v2541 : BitVec 32 := Scalar.addi v2 c8_i32_1873
  let c16_i32_1874 : BitVec 32 := 16#32
  let c0_i32_1875 : BitVec 32 := 0#32
  let v2542 : BitVec 1 := Scalar.cmpi .eq c16_i32_1874 c0_i32_1875
  let c1_i32_1876 : BitVec 32 := 1#32
  let v2543 : BitVec 32 := Scalar.select v2542 c1_i32_1876 c16_i32_1874
  let v2544 : BitVec 32 := Scalar.remsi v2541 v2543
  let c0_i32_1878 : BitVec 32 := 0#32
  let v2546 : BitVec 1 := Scalar.cmpi .slt v2544 c0_i32_1878
  let c0_i32_1879 : BitVec 32 := 0#32
  let v2547 : BitVec 1 := Scalar.cmpi .slt v2543 c0_i32_1879
  let v2548 : BitVec 1 := Scalar.xori v2546 v2547
  let c0_i32_1877 : BitVec 32 := 0#32
  let v2545 : BitVec 1 := Scalar.cmpi .ne v2544 c0_i32_1877
  let v2549 : BitVec 1 := Scalar.andi v2548 v2545
  let v2550 : BitVec 32 := Scalar.addi v2544 v2543
  let v2551 : BitVec 32 := Scalar.select v2549 v2550 v2544
  let c1_i32_1887 : BitVec 32 := 1#32
  let v2558 : BitVec 32 := Scalar.muli v2551 c1_i32_1887
  let v2559 : BitVec 32 := Scalar.addi c0_i32_1888 v2558
  v2559.toNat
def k0_dev69 (d0 : Dev nD) : Nat :=
  let c0_i32_1908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1893 : BitVec 32 := 9#32
  let v2568 : BitVec 32 := Scalar.addi v2 c9_i32_1893
  let c16_i32_1894 : BitVec 32 := 16#32
  let c0_i32_1895 : BitVec 32 := 0#32
  let v2569 : BitVec 1 := Scalar.cmpi .eq c16_i32_1894 c0_i32_1895
  let c1_i32_1896 : BitVec 32 := 1#32
  let v2570 : BitVec 32 := Scalar.select v2569 c1_i32_1896 c16_i32_1894
  let v2571 : BitVec 32 := Scalar.remsi v2568 v2570
  let c0_i32_1898 : BitVec 32 := 0#32
  let v2573 : BitVec 1 := Scalar.cmpi .slt v2571 c0_i32_1898
  let c0_i32_1899 : BitVec 32 := 0#32
  let v2574 : BitVec 1 := Scalar.cmpi .slt v2570 c0_i32_1899
  let v2575 : BitVec 1 := Scalar.xori v2573 v2574
  let c0_i32_1897 : BitVec 32 := 0#32
  let v2572 : BitVec 1 := Scalar.cmpi .ne v2571 c0_i32_1897
  let v2576 : BitVec 1 := Scalar.andi v2575 v2572
  let v2577 : BitVec 32 := Scalar.addi v2571 v2570
  let v2578 : BitVec 32 := Scalar.select v2576 v2577 v2571
  let c1_i32_1907 : BitVec 32 := 1#32
  let v2585 : BitVec 32 := Scalar.muli v2578 c1_i32_1907
  let v2586 : BitVec 32 := Scalar.addi c0_i32_1908 v2585
  v2586.toNat
def k0_dev70 (d0 : Dev nD) : Nat :=
  let c0_i32_1928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1913 : BitVec 32 := 10#32
  let v2595 : BitVec 32 := Scalar.addi v2 c10_i32_1913
  let c16_i32_1914 : BitVec 32 := 16#32
  let c0_i32_1915 : BitVec 32 := 0#32
  let v2596 : BitVec 1 := Scalar.cmpi .eq c16_i32_1914 c0_i32_1915
  let c1_i32_1916 : BitVec 32 := 1#32
  let v2597 : BitVec 32 := Scalar.select v2596 c1_i32_1916 c16_i32_1914
  let v2598 : BitVec 32 := Scalar.remsi v2595 v2597
  let c0_i32_1918 : BitVec 32 := 0#32
  let v2600 : BitVec 1 := Scalar.cmpi .slt v2598 c0_i32_1918
  let c0_i32_1919 : BitVec 32 := 0#32
  let v2601 : BitVec 1 := Scalar.cmpi .slt v2597 c0_i32_1919
  let v2602 : BitVec 1 := Scalar.xori v2600 v2601
  let c0_i32_1917 : BitVec 32 := 0#32
  let v2599 : BitVec 1 := Scalar.cmpi .ne v2598 c0_i32_1917
  let v2603 : BitVec 1 := Scalar.andi v2602 v2599
  let v2604 : BitVec 32 := Scalar.addi v2598 v2597
  let v2605 : BitVec 32 := Scalar.select v2603 v2604 v2598
  let c1_i32_1927 : BitVec 32 := 1#32
  let v2612 : BitVec 32 := Scalar.muli v2605 c1_i32_1927
  let v2613 : BitVec 32 := Scalar.addi c0_i32_1928 v2612
  v2613.toNat
def k0_dev71 (d0 : Dev nD) : Nat :=
  let c0_i32_1948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1933 : BitVec 32 := 11#32
  let v2622 : BitVec 32 := Scalar.addi v2 c11_i32_1933
  let c16_i32_1934 : BitVec 32 := 16#32
  let c0_i32_1935 : BitVec 32 := 0#32
  let v2623 : BitVec 1 := Scalar.cmpi .eq c16_i32_1934 c0_i32_1935
  let c1_i32_1936 : BitVec 32 := 1#32
  let v2624 : BitVec 32 := Scalar.select v2623 c1_i32_1936 c16_i32_1934
  let v2625 : BitVec 32 := Scalar.remsi v2622 v2624
  let c0_i32_1938 : BitVec 32 := 0#32
  let v2627 : BitVec 1 := Scalar.cmpi .slt v2625 c0_i32_1938
  let c0_i32_1939 : BitVec 32 := 0#32
  let v2628 : BitVec 1 := Scalar.cmpi .slt v2624 c0_i32_1939
  let v2629 : BitVec 1 := Scalar.xori v2627 v2628
  let c0_i32_1937 : BitVec 32 := 0#32
  let v2626 : BitVec 1 := Scalar.cmpi .ne v2625 c0_i32_1937
  let v2630 : BitVec 1 := Scalar.andi v2629 v2626
  let v2631 : BitVec 32 := Scalar.addi v2625 v2624
  let v2632 : BitVec 32 := Scalar.select v2630 v2631 v2625
  let c1_i32_1947 : BitVec 32 := 1#32
  let v2639 : BitVec 32 := Scalar.muli v2632 c1_i32_1947
  let v2640 : BitVec 32 := Scalar.addi c0_i32_1948 v2639
  v2640.toNat
def k0_dev72 (d0 : Dev nD) : Nat :=
  let c0_i32_1968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1953 : BitVec 32 := 12#32
  let v2649 : BitVec 32 := Scalar.addi v2 c12_i32_1953
  let c16_i32_1954 : BitVec 32 := 16#32
  let c0_i32_1955 : BitVec 32 := 0#32
  let v2650 : BitVec 1 := Scalar.cmpi .eq c16_i32_1954 c0_i32_1955
  let c1_i32_1956 : BitVec 32 := 1#32
  let v2651 : BitVec 32 := Scalar.select v2650 c1_i32_1956 c16_i32_1954
  let v2652 : BitVec 32 := Scalar.remsi v2649 v2651
  let c0_i32_1958 : BitVec 32 := 0#32
  let v2654 : BitVec 1 := Scalar.cmpi .slt v2652 c0_i32_1958
  let c0_i32_1959 : BitVec 32 := 0#32
  let v2655 : BitVec 1 := Scalar.cmpi .slt v2651 c0_i32_1959
  let v2656 : BitVec 1 := Scalar.xori v2654 v2655
  let c0_i32_1957 : BitVec 32 := 0#32
  let v2653 : BitVec 1 := Scalar.cmpi .ne v2652 c0_i32_1957
  let v2657 : BitVec 1 := Scalar.andi v2656 v2653
  let v2658 : BitVec 32 := Scalar.addi v2652 v2651
  let v2659 : BitVec 32 := Scalar.select v2657 v2658 v2652
  let c1_i32_1967 : BitVec 32 := 1#32
  let v2666 : BitVec 32 := Scalar.muli v2659 c1_i32_1967
  let v2667 : BitVec 32 := Scalar.addi c0_i32_1968 v2666
  v2667.toNat
def k0_dev73 (d0 : Dev nD) : Nat :=
  let c0_i32_1988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1973 : BitVec 32 := 13#32
  let v2676 : BitVec 32 := Scalar.addi v2 c13_i32_1973
  let c16_i32_1974 : BitVec 32 := 16#32
  let c0_i32_1975 : BitVec 32 := 0#32
  let v2677 : BitVec 1 := Scalar.cmpi .eq c16_i32_1974 c0_i32_1975
  let c1_i32_1976 : BitVec 32 := 1#32
  let v2678 : BitVec 32 := Scalar.select v2677 c1_i32_1976 c16_i32_1974
  let v2679 : BitVec 32 := Scalar.remsi v2676 v2678
  let c0_i32_1978 : BitVec 32 := 0#32
  let v2681 : BitVec 1 := Scalar.cmpi .slt v2679 c0_i32_1978
  let c0_i32_1979 : BitVec 32 := 0#32
  let v2682 : BitVec 1 := Scalar.cmpi .slt v2678 c0_i32_1979
  let v2683 : BitVec 1 := Scalar.xori v2681 v2682
  let c0_i32_1977 : BitVec 32 := 0#32
  let v2680 : BitVec 1 := Scalar.cmpi .ne v2679 c0_i32_1977
  let v2684 : BitVec 1 := Scalar.andi v2683 v2680
  let v2685 : BitVec 32 := Scalar.addi v2679 v2678
  let v2686 : BitVec 32 := Scalar.select v2684 v2685 v2679
  let c1_i32_1987 : BitVec 32 := 1#32
  let v2693 : BitVec 32 := Scalar.muli v2686 c1_i32_1987
  let v2694 : BitVec 32 := Scalar.addi c0_i32_1988 v2693
  v2694.toNat
def k0_dev74 (d0 : Dev nD) : Nat :=
  let c0_i32_2008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1993 : BitVec 32 := 14#32
  let v2703 : BitVec 32 := Scalar.addi v2 c14_i32_1993
  let c16_i32_1994 : BitVec 32 := 16#32
  let c0_i32_1995 : BitVec 32 := 0#32
  let v2704 : BitVec 1 := Scalar.cmpi .eq c16_i32_1994 c0_i32_1995
  let c1_i32_1996 : BitVec 32 := 1#32
  let v2705 : BitVec 32 := Scalar.select v2704 c1_i32_1996 c16_i32_1994
  let v2706 : BitVec 32 := Scalar.remsi v2703 v2705
  let c0_i32_1998 : BitVec 32 := 0#32
  let v2708 : BitVec 1 := Scalar.cmpi .slt v2706 c0_i32_1998
  let c0_i32_1999 : BitVec 32 := 0#32
  let v2709 : BitVec 1 := Scalar.cmpi .slt v2705 c0_i32_1999
  let v2710 : BitVec 1 := Scalar.xori v2708 v2709
  let c0_i32_1997 : BitVec 32 := 0#32
  let v2707 : BitVec 1 := Scalar.cmpi .ne v2706 c0_i32_1997
  let v2711 : BitVec 1 := Scalar.andi v2710 v2707
  let v2712 : BitVec 32 := Scalar.addi v2706 v2705
  let v2713 : BitVec 32 := Scalar.select v2711 v2712 v2706
  let c1_i32_2007 : BitVec 32 := 1#32
  let v2720 : BitVec 32 := Scalar.muli v2713 c1_i32_2007
  let v2721 : BitVec 32 := Scalar.addi c0_i32_2008 v2720
  v2721.toNat
def k0_dev75 (d0 : Dev nD) : Nat :=
  let c0_i32_2028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2013 : BitVec 32 := 15#32
  let v2730 : BitVec 32 := Scalar.addi v2 c15_i32_2013
  let c16_i32_2014 : BitVec 32 := 16#32
  let c0_i32_2015 : BitVec 32 := 0#32
  let v2731 : BitVec 1 := Scalar.cmpi .eq c16_i32_2014 c0_i32_2015
  let c1_i32_2016 : BitVec 32 := 1#32
  let v2732 : BitVec 32 := Scalar.select v2731 c1_i32_2016 c16_i32_2014
  let v2733 : BitVec 32 := Scalar.remsi v2730 v2732
  let c0_i32_2018 : BitVec 32 := 0#32
  let v2735 : BitVec 1 := Scalar.cmpi .slt v2733 c0_i32_2018
  let c0_i32_2019 : BitVec 32 := 0#32
  let v2736 : BitVec 1 := Scalar.cmpi .slt v2732 c0_i32_2019
  let v2737 : BitVec 1 := Scalar.xori v2735 v2736
  let c0_i32_2017 : BitVec 32 := 0#32
  let v2734 : BitVec 1 := Scalar.cmpi .ne v2733 c0_i32_2017
  let v2738 : BitVec 1 := Scalar.andi v2737 v2734
  let v2739 : BitVec 32 := Scalar.addi v2733 v2732
  let v2740 : BitVec 32 := Scalar.select v2738 v2739 v2733
  let c1_i32_2027 : BitVec 32 := 1#32
  let v2747 : BitVec 32 := Scalar.muli v2740 c1_i32_2027
  let v2748 : BitVec 32 := Scalar.addi c0_i32_2028 v2747
  v2748.toNat
def k0_off8 (d0 : Dev nD) (c1_i32_2035 : BitVec 32) (c0_i32_2059 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2761 : BitVec 32 := Scalar.addi v2 c1_i32_2035
  let c16_i32_2036 : BitVec 32 := 16#32
  let c0_i32_2037 : BitVec 32 := 0#32
  let v2762 : BitVec 1 := Scalar.cmpi .eq c16_i32_2036 c0_i32_2037
  let c1_i32_2038 : BitVec 32 := 1#32
  let v2763 : BitVec 32 := Scalar.select v2762 c1_i32_2038 c16_i32_2036
  let v2764 : BitVec 32 := Scalar.remsi v2761 v2763
  let c0_i32_2040 : BitVec 32 := 0#32
  let v2766 : BitVec 1 := Scalar.cmpi .slt v2764 c0_i32_2040
  let c0_i32_2041 : BitVec 32 := 0#32
  let v2767 : BitVec 1 := Scalar.cmpi .slt v2763 c0_i32_2041
  let v2768 : BitVec 1 := Scalar.xori v2766 v2767
  let c0_i32_2039 : BitVec 32 := 0#32
  let v2765 : BitVec 1 := Scalar.cmpi .ne v2764 c0_i32_2039
  let v2769 : BitVec 1 := Scalar.andi v2768 v2765
  let v2770 : BitVec 32 := Scalar.addi v2764 v2763
  let v2771 : BitVec 32 := Scalar.select v2769 v2770 v2764
  let c64_i32_2058 : BitVec 32 := 64#32
  let v2790 : BitVec 32 := Scalar.muli v2771 c64_i32_2058
  let v2791 : BitVec 32 := Scalar.addi v2790 c0_i32_2059
  let v2792 : Index := Scalar.indexCast v2791
  let c0_2060 : Index := 0#32
  ![v2792.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x512 : Shape := ⟨2, ![16384, 512]⟩
abbrev S16x1024x512 : Shape := ⟨3, ![16, 1024, 512]⟩
abbrev S_ : Shape := ⟨0, ![]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16x1024x512, .bf16⟩
  | .hbm, ⟨2, _⟩ => ⟨S16x1024x512, .f32⟩
  | .hbm, ⟨3, _⟩ => ⟨S_, .f32⟩
  | .hbm, ⟨4, _⟩ => ⟨S1024x512, .f32⟩
  | .hbm, ⟨5, _⟩ => ⟨S1024x512, .bf16⟩
  | .hbm, ⟨6, _⟩ => ⟨S1024x512, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Clean.lean ====
/-
The kernel's program, written as loops.

The printed body is one straight line of some hundreds of memory operations, cut into pieces. Here the same program is
written the way the kernel's source writes it, as loops over the fifteen other devices and over the two halves of a
chunk, and `cc0_body_eq_looped` states that the printed body is that program.
-/
module

public import proofs.«01_k».proof.Proof.Gen.KernelIdeal.Skeleton
public import Idealize.ShloMosaic.Lib.Pipeline.Regions

@[expose] public section

noncomputable section

namespace Cert.KernelIdeal.Looped

open Idealize.ShloMosaic Idealize.SL.Sem
open Cert.KernelIdeal.Gen

/-! ## Loops -/

/-- Run `f` on each element of a list, in order. -/
def each {E : Type → Type} {α : Type} (f : α → Prog E PUnit) : List α → Prog E PUnit
  | [] => pure ⟨⟩
  | x :: xs => f x >>= fun _ => each f xs

/-- Run `f` on each element of a list, in order, carrying a value. -/
def eachWith {E : Type → Type} {α β : Type} (f : β → α → Prog E β) : β → List α → Prog E β
  | b, [] => pure b
  | b, x :: xs => f b x >>= fun b' => eachWith f b' xs

/-- The fifteen other devices, by their distance `o + 1` from this one. -/
abbrev others : List (Fin 15) := [0, 1, 2, 3, 4, 5, 6, 7, 8, 9, 10, 11, 12, 13, 14]

/-- The two halves of a chunk. -/
abbrev halves : List (Fin 2) := [0, 1]

/-- Every half with every distance, half by half. -/
abbrev pairs : List (Fin 2 × Fin 15) := halves.flatMap fun h => others.map (Prod.mk h)

/-! ## The devices a device addresses -/

/-- The device the `o`-th signal of the barrier goes to. -/
def barDev (d : Dev nD) : Fin 15 → Dev nD :=
  ![⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩, ⟨k0_dev8 d, k0_dev8_lt d⟩,
    ⟨k0_dev9 d, k0_dev9_lt d⟩, ⟨k0_dev10 d, k0_dev10_lt d⟩, ⟨k0_dev11 d, k0_dev11_lt d⟩,
    ⟨k0_dev12 d, k0_dev12_lt d⟩, ⟨k0_dev13 d, k0_dev13_lt d⟩, ⟨k0_dev14 d, k0_dev14_lt d⟩,
    ⟨k0_dev15 d, k0_dev15_lt d⟩]

/-- The device the `o`-th copy of the reduction goes to, in half `h`. -/
def scatterDev (d : Dev nD) : Fin 2 → Fin 15 → Dev nD :=
  ![![⟨k0_dev16 d, k0_dev16_lt d⟩, ⟨k0_dev17 d, k0_dev17_lt d⟩, ⟨k0_dev18 d, k0_dev18_lt d⟩,
      ⟨k0_dev19 d, k0_dev19_lt d⟩, ⟨k0_dev20 d, k0_dev20_lt d⟩, ⟨k0_dev21 d, k0_dev21_lt d⟩,
      ⟨k0_dev22 d, k0_dev22_lt d⟩, ⟨k0_dev23 d, k0_dev23_lt d⟩, ⟨k0_dev24 d, k0_dev24_lt d⟩,
      ⟨k0_dev25 d, k0_dev25_lt d⟩, ⟨k0_dev26 d, k0_dev26_lt d⟩, ⟨k0_dev27 d, k0_dev27_lt d⟩,
      ⟨k0_dev28 d, k0_dev28_lt d⟩, ⟨k0_dev29 d, k0_dev29_lt d⟩, ⟨k0_dev30 d, k0_dev30_lt d⟩],
    ![⟨k0_dev31 d, k0_dev31_lt d⟩, ⟨k0_dev32 d, k0_dev32_lt d⟩, ⟨k0_dev33 d, k0_dev33_lt d⟩,
      ⟨k0_dev34 d, k0_dev34_lt d⟩, ⟨k0_dev35 d, k0_dev35_lt d⟩, ⟨k0_dev36 d, k0_dev36_lt d⟩,
      ⟨k0_dev37 d, k0_dev37_lt d⟩, ⟨k0_dev38 d, k0_dev38_lt d⟩, ⟨k0_dev39 d, k0_dev39_lt d⟩,
      ⟨k0_dev40 d, k0_dev40_lt d⟩, ⟨k0_dev41 d, k0_dev41_lt d⟩, ⟨k0_dev42 d, k0_dev42_lt d⟩,
      ⟨k0_dev43 d, k0_dev43_lt d⟩, ⟨k0_dev44 d, k0_dev44_lt d⟩, ⟨k0_dev45 d, k0_dev45_lt d⟩]]

/-- The device the `o`-th copy of the gathering goes to, in half `h`. -/
def gatherDev (d : Dev nD) : Fin 2 → Fin 15 → Dev nD :=
  ![![⟨k0_dev46 d, k0_dev46_lt d⟩, ⟨k0_dev47 d, k0_dev47_lt d⟩, ⟨k0_dev48 d, k0_dev48_lt d⟩,
      ⟨k0_dev49 d, k0_dev49_lt d⟩, ⟨k0_dev50 d, k0_dev50_lt d⟩, ⟨k0_dev51 d, k0_dev51_lt d⟩,
      ⟨k0_dev52 d, k0_dev52_lt d⟩, ⟨k0_dev53 d, k0_dev53_lt d⟩, ⟨k0_dev54 d, k0_dev54_lt d⟩,
      ⟨k0_dev55 d, k0_dev55_lt d⟩, ⟨k0_dev56 d, k0_dev56_lt d⟩, ⟨k0_dev57 d, k0_dev57_lt d⟩,
      ⟨k0_dev58 d, k0_dev58_lt d⟩, ⟨k0_dev59 d, k0_dev59_lt d⟩, ⟨k0_dev60 d, k0_dev60_lt d⟩],
    ![⟨k0_dev61 d, k0_dev61_lt d⟩, ⟨k0_dev62 d, k0_dev62_lt d⟩, ⟨k0_dev63 d, k0_dev63_lt d⟩,
      ⟨k0_dev64 d, k0_dev64_lt d⟩, ⟨k0_dev65 d, k0_dev65_lt d⟩, ⟨k0_dev66 d, k0_dev66_lt d⟩,
      ⟨k0_dev67 d, k0_dev67_lt d⟩, ⟨k0_dev68 d, k0_dev68_lt d⟩, ⟨k0_dev69 d, k0_dev69_lt d⟩,
      ⟨k0_dev70 d, k0_dev70_lt d⟩, ⟨k0_dev71 d, k0_dev71_lt d⟩, ⟨k0_dev72 d, k0_dev72_lt d⟩,
      ⟨k0_dev73 d, k0_dev73_lt d⟩, ⟨k0_dev74 d, k0_dev74_lt d⟩, ⟨k0_dev75 d, k0_dev75_lt d⟩]]

/-! ## Slots and semaphores -/

/-- One of the 32 slots of a scratch buffer, a block of 32 rows. -/
abbrev slotAt (m : Memref sig .tc .vmem S32x32x512 .bf16) (off : Fin 3 → ℕ)
    (h : ∀ a, off a + S1x32x512.size a ≤ S32x32x512.size a) : Memref sig .tc .vmem S32x512 .bf16 :=
  (m.slice (Rect.unit (s := S32x32x512) off S1x32x512.size h) (fun _ => rfl)).squeeze S32x512
    squeezes_S1x32x512_S32x512

/-- One semaphore of an array of 32. -/
abbrev semAt (a : DmaSems sig S32) (off : Fin 1 → ℕ) (h : ∀ a, off a + S1.size a ≤ S32.size a) :
    DmaSem sig :=
  ((a.slice (Rect.unit (s := S32) off S1.size h)).squeeze S_ squeezes_S1_S_).sem

/-- The semaphore a send of half `h` at distance `o + 1` signals is in range. -/
theorem sendOff_inb (h : Fin 2) (o : Fin 15) :
    ∀ a : Fin 1, (![2 * (1 + o.val) + h.val] : Fin 1 → ℕ) a + S1.size a ≤ S32.size a := by
  revert h o; decide

variable {F : FTy → Type} [FloatOps F]

/-! ## Values -/

/-- A slot's rows in float32. -/
def wide (v : Vec F S1x32x512 .bf16) : FVec F S32x512 .f32 :=
  extf .f32 (shapeCast S32x512 v shapeCasts_S1x32x512_S32x512) bitsLt_bf16_f32

/-- The running sum and a slot's rows. -/
def plus (acc : FVec F S32x512 .f32) (v : Vec F S1x32x512 .bf16) : FVec F S32x512 .f32 :=
  addf acc (wide v)

/-- A sum rounded to bfloat16, in a slot's shape. -/
def narrow (acc : FVec F S32x512 .f32) : FVec F S1x32x512 .bf16 :=
  shapeCast S1x32x512 (truncf .bf16 (shapeCast S1x32x512 acc shapeCasts_S32x512_S1x32x512) bitsLt_bf16_f32)
    shapeCasts_S1x32x512_S1x32x512

/-! ## The program -/

section Program

/-- The memory operations of a tensor core's program. -/
abbrev Ops (F : FTy → Type) [FloatOps F] := TpuEff nD τ sig (Elt F) Λ₀ .tc

variable (arg0 : Memref sig .tc .vmem S1024x512 .bf16) (harg0 : arg0.IsWhole)
  (arg1 : Memref sig .tc .vmem S1024x512 .f32) (harg1 : arg1.IsWhole)
  (arg2 : Memref sig .tc .vmem S32x32x512 .bf16) (harg2 : arg2.IsWhole)
  (arg3 : Memref sig .tc .vmem S32x32x512 .bf16) (harg3 : arg3.IsWhole)
  (arg4 : Memref sig .tc .vmem S32x32x512 .bf16) (harg4 : arg4.IsWhole)
  (arg5 arg6 arg7 arg8 : DmaSems sig S32)

/-- Copy the device's rows into the staging buffer. -/
def fill (harg2 : arg2.IsWhole) : Prog (Ops F) PUnit := do
  let v3 : Vec F S1024x512 .bf16 ← Prog.lift (.load arg0 (Rect.unit (s := S1024x512) ![0, 0] S1024x512.size inb_S1024x512_S1024x512_0_0).toLoadRect (View.loadsAt_vmem h_S1024x512))
  let _v6 : Vec F S32x32x512 .bf16 ← Prog.lift (.load arg2 (Rect.unit (s := S32x32x512) ![0, 0, 0] S32x32x512.size inb_S32x32x512_S32x32x512_0_0_0).toLoadRect (View.loadsAt_vmem h_S32x32x512))
  Prog.lift (.store arg2 (Rect.unit (s := S32x32x512) ![0, 0, 0] S32x32x512.size inb_S32x32x512_S32x32x512_0_0_0) (k0_pay1 v3) Finset.univ (View.stores_vmem h_S32x32x512 (harg2.storeExact_slice rfl _ packedbf16_S32x32x512_S32x32x512_0_0_0) (fun _ => rfl)) (.inl rfl))

/-- The barrier's semaphore. -/
abbrev barSem : Sem sig := (SemArray.scalar (sig.barrier 0 rfl) : Sems sig S_).sem

/-- The barrier: signal every other device, then wait for as many signals. -/
def barrier (d : Dev nD) : Prog (Ops F) PUnit := do
  each (fun o => semSignalWord (barDev d o) barSem 1#32) others
  semWaitWord barSem 15#32

/-- One copy of the reduction: the slot the other device sums, into this device's slot of its receive buffer. -/
def scatterOne (harg2 : arg2.IsWhole) (harg3 : arg3.IsWhole) (d : Dev nD) (h : Fin 2) (o : Fin 15) : Prog (Ops F) PUnit :=
  Prog.lift (.enqueueDma (slotAt arg2 (k0_off3 d (BitVec.ofNat 32 (1 + o.val)) (BitVec.ofNat 32 h.val)) (k0_off3_inb d o h))
    (.remote (Dev.tc (scatterDev d h o)) (slotAt arg3 (k0_off2 d (BitVec.ofNat 32 h.val)) (k0_off2_inb d h))
      (.dma (semAt arg5 ![2 * (1 + o.val) + h.val] (sendOff_inb h o))))
    (.dma (semAt arg6 (k0_off1 d (BitVec.ofNat 32 h.val)) (k0_off1_inb d h)))
    ((harg2.wordExact_slice rfl _ (k0_off3_wordsbf16 d o h)).reshape _ _)
    ((harg3.wordExact_slice rfl _ (k0_off2_wordsbf16 d h)).reshape _ _) ⟨⟨rfl, Or.inl rfl⟩, trivial⟩)

/-- One term of the sum: wait for the other device's copy, then add its rows. -/
def reduceOne (harg2 : arg2.IsWhole) (harg3 : arg3.IsWhole) (d : Dev nD) (h : Fin 2) (acc : FVec F S32x512 .f32)
    (o : Fin 15) : Prog (Ops F) (FVec F S32x512 .f32) := do
  Prog.lift (.waitDma2 (semAt arg6 (k0_off5 d (BitVec.ofNat 32 (1 + o.val)) (BitVec.ofNat 32 h.val)) (k0_off5_inb d o h))
    (slotAt arg2 ![0, 0, 0] inb_S32x32x512_S1x32x512_0_0_0)
    (slotAt arg3 (k0_off3 d (BitVec.ofNat 32 (1 + o.val)) (BitVec.ofNat 32 h.val)) (k0_off3_inb d o h))
    ((harg2.wordExact_slice rfl _ wordsbf16_S32x32x512_S1x32x512_0_0_0).reshape _ _)
    ((harg3.wordExact_slice rfl _ (k0_off3_wordsbf16 d o h)).reshape _ _))
  let v : Vec F S1x32x512 .bf16 ← Prog.lift (.load arg3 (Rect.unit (s := S32x32x512) (k0_off6 d (BitVec.ofNat 32 (1 + o.val)) (BitVec.ofNat 32 h.val)) S1x32x512.size (k0_off6_inb d o h)).toLoadRect (View.loadsAt_vmem h_S1x32x512))
  pure (plus acc v)

/-- One copy of the gathering: this device's rounded sum, into its slot of the other device's gather buffer. -/
def gatherOne (harg4 : arg4.IsWhole) (d : Dev nD) (h : Fin 2) (o : Fin 15) : Prog (Ops F) PUnit :=
  Prog.lift (.enqueueDma (slotAt arg4 (k0_off2 d (BitVec.ofNat 32 h.val)) (k0_off2_inb d h))
    (.remote (Dev.tc (gatherDev d h o)) (slotAt arg4 (k0_off2 d (BitVec.ofNat 32 h.val)) (k0_off2_inb d h))
      (.dma (semAt arg7 ![2 * (1 + o.val) + h.val] (sendOff_inb h o))))
    (.dma (semAt arg8 (k0_off1 d (BitVec.ofNat 32 h.val)) (k0_off1_inb d h)))
    ((harg4.wordExact_slice rfl _ (k0_off2_wordsbf16 d h)).reshape _ _)
    ((harg4.wordExact_slice rfl _ (k0_off2_wordsbf16 d h)).reshape _ _) ⟨⟨rfl, Or.inl rfl⟩, trivial⟩)

/-- One half of this device's chunk: sum it, send the rounded sum to every other device, and write the sum out. -/
def half (harg2 : arg2.IsWhole) (harg3 : arg3.IsWhole) (harg4 : arg4.IsWhole) (d : Dev nD) (h : Fin 2) : Prog (Ops F) PUnit := do
  let v : Vec F S1x32x512 .bf16 ← Prog.lift (.load arg2 (Rect.unit (s := S32x32x512) (k0_off4 d (BitVec.ofNat 32 h.val)) S1x32x512.size (k0_off4_inb d h)).toLoadRect (View.loadsAt_vmem h_S1x32x512))
  let acc ← eachWith (reduceOne arg2 arg3 arg6 harg2 harg3 d h) (wide v) others
  let _ : Vec F S1x32x512 .bf16 ← Prog.lift (.load arg4 (Rect.unit (s := S32x32x512) (k0_off4 d (BitVec.ofNat 32 h.val)) S1x32x512.size (k0_off4_inb d h)).toLoadRect (View.loadsAt_vmem h_S1x32x512))
  Prog.lift (.store arg4 (Rect.unit (s := S32x32x512) (k0_off4 d (BitVec.ofNat 32 h.val)) S1x32x512.size (k0_off4_inb d h)) (narrow acc) Finset.univ (View.stores_vmem h_S1x32x512 (harg4.storeExact_slice rfl _ (k0_off4_packedbf16 d h)) (fun _ => rfl)) (.inl rfl))
  each (gatherOne arg4 arg7 arg8 harg4 d h) others
  let _ : Vec F S32x512 .f32 ← Prog.lift (.load arg1 (Rect.unit (s := S1024x512) (k0_off7 d (BitVec.ofNat 32 (32 * h.val))) S32x512.size (k0_off7_inb d h)).toLoadRect (View.loadsAt_vmem h_S32x512))
  Prog.lift (.store arg1 (Rect.unit (s := S1024x512) (k0_off7 d (BitVec.ofNat 32 (32 * h.val))) S32x512.size (k0_off7_inb d h)) acc Finset.univ (View.stores_vmem_bits_univ h_S32x512 rfl) (.inl rfl))

/-- One block another device summed: wait for its copy, and write it out in float32. -/
def collectOne (harg4 : arg4.IsWhole) (d : Dev nD) (h : Fin 2) (o : Fin 15) : Prog (Ops F) PUnit := do
  Prog.lift (.waitDma2 (semAt arg8 (k0_off5 d (BitVec.ofNat 32 (1 + o.val)) (BitVec.ofNat 32 h.val)) (k0_off5_inb d o h))
    (slotAt arg4 ![0, 0, 0] inb_S32x32x512_S1x32x512_0_0_0)
    (slotAt arg4 (k0_off3 d (BitVec.ofNat 32 (1 + o.val)) (BitVec.ofNat 32 h.val)) (k0_off3_inb d o h))
    ((harg4.wordExact_slice rfl _ wordsbf16_S32x32x512_S1x32x512_0_0_0).reshape _ _)
    ((harg4.wordExact_slice rfl _ (k0_off3_wordsbf16 d o h)).reshape _ _))
  let v : Vec F S1x32x512 .bf16 ← Prog.lift (.load arg4 (Rect.unit (s := S32x32x512) (k0_off6 d (BitVec.ofNat 32 (1 + o.val)) (BitVec.ofNat 32 h.val)) S1x32x512.size (k0_off6_inb d o h)).toLoadRect (View.loadsAt_vmem h_S1x32x512))
  let _ : Vec F S32x512 .f32 ← Prog.lift (.load arg1 (Rect.unit (s := S1024x512) (k0_off8 d (BitVec.ofNat 32 (1 + o.val)) (BitVec.ofNat 32 (32 * h.val))) S32x512.size (k0_off8_inb d o h)).toLoadRect (View.loadsAt_vmem h_S32x512))
  Prog.lift (.store arg1 (Rect.unit (s := S1024x512) (k0_off8 d (BitVec.ofNat 32 (1 + o.val)) (BitVec.ofNat 32 (32 * h.val))) S32x512.size (k0_off8_inb d o h)) (wide v) Finset.univ (View.stores_vmem_bits_univ h_S32x512 rfl) (.inl rfl))

/-- Wait until one copy of the reduction has left. -/
def scatterDone (harg2 : arg2.IsWhole) (harg3 : arg3.IsWhole) (d : Dev nD) (h : Fin 2) (o : Fin 15) : Prog (Ops F) PUnit :=
  Prog.lift (.waitDma2 (semAt arg5 ![2 * (1 + o.val) + h.val] (sendOff_inb h o))
    (slotAt arg3 (k0_off2 d (BitVec.ofNat 32 h.val)) (k0_off2_inb d h))
    (slotAt arg2 (k0_off3 d (BitVec.ofNat 32 (1 + o.val)) (BitVec.ofNat 32 h.val)) (k0_off3_inb d o h))
    ((harg3.wordExact_slice rfl _ (k0_off2_wordsbf16 d h)).reshape _ _)
    ((harg2.wordExact_slice rfl _ (k0_off3_wordsbf16 d o h)).reshape _ _))

/-- Wait until one copy of the gathering has left. -/
def gatherDone (harg4 : arg4.IsWhole) (d : Dev nD) (h : Fin 2) (o : Fin 15) : Prog (Ops F) PUnit :=
  Prog.lift (.waitDma2 (semAt arg7 ![2 * (1 + o.val) + h.val] (sendOff_inb h o))
    (slotAt arg4 (k0_off2 d (BitVec.ofNat 32 h.val)) (k0_off2_inb d h))
    (slotAt arg4 (k0_off2 d (BitVec.ofNat 32 h.val)) (k0_off2_inb d h))
    ((harg4.wordExact_slice rfl _ (k0_off2_wordsbf16 d h)).reshape _ _)
    ((harg4.wordExact_slice rfl _ (k0_off2_wordsbf16 d h)).reshape _ _))

/-- The kernel on one device. -/
def looped (harg2 : arg2.IsWhole) (harg3 : arg3.IsWhole) (harg4 : arg4.IsWhole) : Prog (Ops F) PUnit := do
  let d : Dev nD ← Prog.lift .deviceId
  fill arg0 arg2 harg2
  barrier d
  each (fun p => scatterOne arg2 arg3 arg5 arg6 harg2 harg3 d p.1 p.2) pairs
  each (half arg1 arg2 arg3 arg4 arg6 arg7 arg8 harg2 harg3 harg4 d) halves
  each (fun p => collectOne arg1 arg4 arg8 harg4 d p.1 p.2) pairs
  each (fun p => scatterDone arg2 arg3 arg5 harg2 harg3 d p.1 p.2) pairs
  each (fun p => gatherDone arg4 arg7 harg4 d p.1 p.2) pairs

set_option maxRecDepth 100000 in
/-- The printed body is the loops. -/
theorem cc0_body_eq_looped :
    cc0_body (F := F) arg0 harg0 arg1 harg1 arg2 harg2 arg3 harg3 arg4 harg4 arg5 arg6 arg7 arg8
      = looped arg0 arg1 arg2 arg3 arg4 arg5 arg6 arg7 arg8 harg2 harg3 harg4 := by
  chain_rfl

end Program

end Cert.KernelIdeal.Looped

end
-- ==== Proof.Places.lean ====
/-
Who sends what where.

The devices stand on a ring of sixteen. Device `d` addresses the device at distance `o + 1`, for `o` in `0 … 14`. A
scratch buffer has 32 slots, two per device (`slot d h`). This file states which device, slot and semaphore each
printed index names, and that the slots of the fifteen others and a device's own two slots are all 32 slots.
-/
module

public import proofs.«01_k».proof.Proof.Clean

@[expose] public section

noncomputable section

namespace Cert.KernelIdeal.Looped

open Idealize.ShloMosaic
open Cert.KernelIdeal.Gen

set_option backward.proofsInPublic true in
/-- The device at distance `o + 1` from `d`. -/
def peer (d : Dev nD) (o : Fin 15) : Dev nD := ⟨(d.val + o.val + 1) % 16, Nat.mod_lt _ (by decide)⟩

set_option backward.proofsInPublic true in
/-- The slot of half `h` of device `d`'s chunk. -/
def slot (d : Dev nD) (h : Fin 2) : Fin 32 := ⟨2 * d.val + h.val, by have h₁ : d.val < 16 := d.isLt; have := h.isLt; omega⟩

set_option backward.proofsInPublic true in
/-- The device a slot belongs to. -/
def owner (j : Fin 32) : Dev nD := ⟨j.val / 2, by have := j.isLt; show _ < 16; omega⟩

set_option backward.proofsInPublic true in
/-- The half a slot holds. -/
def part (j : Fin 32) : Fin 2 := ⟨j.val % 2, Nat.mod_lt _ (by decide)⟩

theorem owner_slot (d : Dev nD) (h : Fin 2) : owner (slot d h) = d := by
  revert d h; decide

theorem part_slot (d : Dev nD) (h : Fin 2) : part (slot d h) = h := by
  revert d h; decide

theorem slot_owner (j : Fin 32) : slot (owner j) (part j) = j := by
  revert j; decide

theorem slot_inj {d d' : Dev nD} {h h' : Fin 2} (e : slot d h = slot d' h') : d = d' ∧ h = h' :=
  ⟨by rw [← owner_slot d h, e, owner_slot], by rw [← part_slot d h, e, part_slot]⟩

theorem peer_ne (d : Dev nD) (o : Fin 15) : peer d o ≠ d := by
  revert d o; decide

theorem peer_inj (d : Dev nD) : Function.Injective (peer d) := by
  revert d; decide

/-- The others of a device are the devices at the fifteen distances. -/
theorem others_eq (d : Dev nD) : (Finset.univ.erase d : Finset (Dev nD)) = (others.map (peer d)).toFinset := by
  revert d; decide +kernel

theorem others_nodup (d : Dev nD) : (others.map (peer d)).Nodup := by
  revert d; decide +kernel

theorem others_univ : (Finset.univ : Finset (Fin 15)) = others.toFinset := by decide
theorem others_nodup' : others.Nodup := by decide
theorem pairs_univ : (Finset.univ : Finset (Fin 2 × Fin 15)) = pairs.toFinset := by decide +kernel
theorem pairs_nodup : pairs.Nodup := by decide +kernel
theorem halves_univ : (Finset.univ : Finset (Fin 2)) = halves.toFinset := by decide
theorem halves_nodup : halves.Nodup := by decide

/-- All slots, the ones of the others of `d` first. -/
abbrev slotList (d : Dev nD) : List (Fin 32) := pairs.map (fun p => slot (peer d p.2) p.1) ++ halves.map (slot d)

theorem slotList_univ (d : Dev nD) : (Finset.univ : Finset (Fin 32)) = (slotList d).toFinset := by
  revert d; decide +kernel

theorem slotList_nodup (d : Dev nD) : (slotList d).Nodup := by
  revert d; decide +kernel

/-! ## What the printed indices name -/

theorem barDev_eq (d : Dev nD) (o : Fin 15) : barDev d o = peer d o := by
  revert d o; decide +kernel

theorem scatterDev_eq (d : Dev nD) (h : Fin 2) (o : Fin 15) : scatterDev d h o = peer d o := by
  revert d h o; decide +kernel

theorem gatherDev_eq (d : Dev nD) (h : Fin 2) (o : Fin 15) : gatherDev d h o = peer d o := by
  revert d h o; decide +kernel

theorem off1_eq (d : Dev nD) (h : Fin 2) : k0_off1 d (BitVec.ofNat 32 h.val) = ![(slot d h).val] := by
  revert d h; decide +kernel

theorem off2_eq (d : Dev nD) (h : Fin 2) : k0_off2 d (BitVec.ofNat 32 h.val) = ![(slot d h).val, 0, 0] := by
  revert d h; decide +kernel

theorem off3_eq (d : Dev nD) (o : Fin 15) (h : Fin 2) :
    k0_off3 d (BitVec.ofNat 32 (1 + o.val)) (BitVec.ofNat 32 h.val) = ![(slot (peer d o) h).val, 0, 0] := by
  revert d o h; decide +kernel

theorem off4_eq (d : Dev nD) (h : Fin 2) : k0_off4 d (BitVec.ofNat 32 h.val) = ![(slot d h).val, 0, 0] := by
  revert d h; decide +kernel

theorem off5_eq (d : Dev nD) (o : Fin 15) (h : Fin 2) :
    k0_off5 d (BitVec.ofNat 32 (1 + o.val)) (BitVec.ofNat 32 h.val) = ![(slot (peer d o) h).val] := by
  revert d o h; decide +kernel

theorem off6_eq (d : Dev nD) (o : Fin 15) (h : Fin 2) :
    k0_off6 d (BitVec.ofNat 32 (1 + o.val)) (BitVec.ofNat 32 h.val) = ![(slot (peer d o) h).val, 0, 0] := by
  revert d o h; decide +kernel

theorem off7_eq (d : Dev nD) (h : Fin 2) :
    k0_off7 d (BitVec.ofNat 32 (32 * h.val)) = ![32 * (slot d h).val, 0] := by
  revert d h; decide +kernel

theorem off8_eq (d : Dev nD) (o : Fin 15) (h : Fin 2) :
    k0_off8 d (BitVec.ofNat 32 (1 + o.val)) (BitVec.ofNat 32 (32 * h.val)) = ![32 * (slot (peer d o) h).val, 0] := by
  revert d o h; decide +kernel

/-- The semaphore of the send at distance `o + 1` of half `h`, counted as a slot. -/
theorem sendOff_eq (h : Fin 2) (o : Fin 15) :
    (![2 * (1 + o.val) + h.val] : Fin 1 → ℕ) = ![(slot (peer 0 o) h).val] := by
  revert h o; decide

/-! ## Semaphores -/

set_option backward.proofsInPublic true in
/-- The `j`-th semaphore of the `k`-th array: 0 the reduction's sends, 1 its arrivals, 2 the gathering's sends, 3 its
    arrivals. -/
def dsem (k : Fin 4) (j : Fin 32) : DmaSem sig := ⟨2 + 32 * k.val + j.val, by have := k.isLt; have := j.isLt; show _ < 130; omega⟩

theorem dsem_inj {k k' : Fin 4} {j j' : Fin 32} (e : dsem k j = dsem k' j') : k = k' ∧ j = j' := by
  have h := congrArg Fin.val e
  simp only [dsem] at h
  have := j.isLt; have := j'.isLt
  exact ⟨Fin.ext (by omega), Fin.ext (by omega)⟩

theorem semAt3_eq (off : Fin 1 → ℕ) (j : Fin 32) (e : off = ![j.val]) (h) : semAt cc0_scratch3 off h = dsem 0 j := by
  subst e; revert j; decide +kernel

theorem semAt4_eq (off : Fin 1 → ℕ) (j : Fin 32) (e : off = ![j.val]) (h) : semAt cc0_scratch4 off h = dsem 1 j := by
  subst e; revert j; decide +kernel

theorem semAt5_eq (off : Fin 1 → ℕ) (j : Fin 32) (e : off = ![j.val]) (h) : semAt cc0_scratch5 off h = dsem 2 j := by
  subst e; revert j; decide +kernel

theorem semAt6_eq (off : Fin 1 → ℕ) (j : Fin 32) (e : off = ![j.val]) (h) : semAt cc0_scratch6 off h = dsem 3 j := by
  subst e; revert j; decide +kernel

end Cert.KernelIdeal.Looped

end
-- ==== Proof.Slots.lean ====
/-
Slots of the scratch buffers and row blocks of the result.

A scratch buffer is 32 slots of 32 rows; the result is 32 blocks of 32 rows, one per slot. This file states that the
slots are disjoint and cover the buffer, that contents are fixed by what they are slot by slot, and what a load, a store
or a copy through one slot reads and leaves.
-/
module

public import proofs.«01_k».proof.Proof.Places

@[expose] public section

noncomputable section

namespace Cert.KernelIdeal.Looped

open Idealize.ShloMosaic
open Cert.KernelIdeal.Gen

variable {F : FTy → Type} [FloatOps F]

/-! ## Scratch slots -/

theorem slot_inb (j : Fin 32) : ∀ a : Fin 3, (![j.val, 0, 0] : Fin 3 → ℕ) a + S1x32x512.size a ≤ S32x32x512.size a := by
  revert j; decide

/-- Slot `j`: one block of 32 rows. -/
def slotRect (j : Fin 32) : Rect S32x32x512 := Rect.unit (s := S32x32x512) ![j.val, 0, 0] S1x32x512.size (slot_inb j)

/-- Where a slot's own indices sit in the buffer. -/
def slotIdx (j : Fin 32) (y : S1x32x512.Idx) : S32x32x512.Idx := (slotRect j).emb y

/-- The elements of slot `j`. -/
def slotSet (j : Fin 32) : Finset S32x32x512.Idx := (slotRect j).set

theorem mem_slotSet {j : Fin 32} {i : S32x32x512.Idx} : i ∈ slotSet j ↔ i 0 = j := by
  unfold slotSet slotRect
  rw [Rect.mem_set_unit]
  constructor
  · intro h
    have h0 := h 0
    have h1 : (j.val : ℕ) ≤ (i 0).val ∧ (i 0).val < j.val + 1 := h0
    exact Fin.ext (by omega)
  · rintro rfl a
    have b1 := (i 1).isLt
    have b2 := (i 2).isLt
    match a with
    | 0 => exact ⟨le_refl _, Nat.lt_succ_self _⟩
    | 1 => exact ⟨Nat.zero_le _, by simpa using b1⟩
    | 2 => exact ⟨Nat.zero_le _, by simpa using b2⟩

theorem slotIdx_mem (j : Fin 32) (y : S1x32x512.Idx) : slotIdx j y ∈ slotSet j := (slotRect j).idx_mem y

theorem exists_slotIdx {j : Fin 32} {i : S32x32x512.Idx} (h : i ∈ slotSet j) : ∃ y, slotIdx j y = i :=
  (slotRect j).exists_idx_of_mem h

theorem slotSet_disjoint (j j' : Fin 32) (h : j ≠ j') : Disjoint (slotSet j) (slotSet j') :=
  Finset.disjoint_left.mpr fun _ hi hi' => h ((mem_slotSet.mp hi).symm.trans (mem_slotSet.mp hi'))

theorem slotSet_cover : Finset.univ.biUnion slotSet = Finset.univ := by
  ext i
  simp only [Finset.mem_biUnion, Finset.mem_univ, true_and, iff_true]
  exact ⟨i 0, mem_slotSet.mpr rfl⟩

/-- An index's place within its slot. -/
def inSlot (i : S32x32x512.Idx) : S1x32x512.Idx := fun a => match a with | 0 => (0 : Fin 1) | 1 => i 1 | 2 => i 2

theorem slotIdx_zero (j : Fin 32) (y : S1x32x512.Idx) : slotIdx j y 0 = j :=
  mem_slotSet.mp (slotIdx_mem j y)

theorem inSlot_slotIdx (j : Fin 32) (y : S1x32x512.Idx) : inSlot (slotIdx j y) = y := by
  funext a
  match a with
  | 0 => exact Subsingleton.elim (α := Fin 1) _ _
  | 1 => exact Fin.ext (by show 0 + 1 * (y 1).val = (y 1).val; omega)
  | 2 => exact Fin.ext (by show 0 + 1 * (y 2).val = (y 2).val; omega)

/-- Contents of a scratch buffer. -/
abbrev Slots (F : FTy → Type) [FloatOps F] := Vec F S32x32x512 .bf16

/-- What slot `j` holds. -/
def slotOf (f : Slots F) (j : Fin 32) : Vec F S1x32x512 .bf16 := fun y => f (slotIdx j y)

/-- The contents that hold `g j` in slot `j`. -/
def ofSlots (g : Fin 32 → Vec F S1x32x512 .bf16) : Slots F := fun i => g (i 0) (inSlot i)

theorem slotOf_ofSlots (g : Fin 32 → Vec F S1x32x512 .bf16) (j : Fin 32) : slotOf (ofSlots g) j = g j := by
  funext y
  show g (slotIdx j y 0) (inSlot (slotIdx j y)) = g j y
  rw [slotIdx_zero, inSlot_slotIdx]

theorem eqOn_slot {f f' : Slots F} {j : Fin 32} (h : slotOf f j = slotOf f' j) : ∀ i ∈ slotSet j, f i = f' i := by
  intro i hi
  obtain ⟨y, rfl⟩ := exists_slotIdx hi
  exact congrFun h y

/-! ## Row blocks of the result -/

theorem rows_inb (j : Fin 32) : ∀ a : Fin 2, (![32 * j.val, 0] : Fin 2 → ℕ) a + S32x512.size a ≤ S1024x512.size a := by
  revert j; decide

/-- Row block `j` of the result. -/
def rowRect (j : Fin 32) : Rect S1024x512 := Rect.unit (s := S1024x512) ![32 * j.val, 0] S32x512.size (rows_inb j)

/-- Where a row block's own indices sit in the result. -/
def rowIdx (j : Fin 32) (y : S32x512.Idx) : S1024x512.Idx := (rowRect j).emb y

/-- The elements of row block `j`. -/
def rowSet (j : Fin 32) : Finset S1024x512.Idx := (rowRect j).set

/-- The row block an index is in. -/
def blockOf (i : S1024x512.Idx) : Fin 32 := ⟨(i 0).val / 32, by
  have h : (i 0).val < 1024 := (i 0).isLt
  omega⟩

/-- An index's place within its row block. -/
def inBlock (i : S1024x512.Idx) : S32x512.Idx := fun a => match a with
  | 0 => (⟨(i 0).val % 32, Nat.mod_lt _ (by decide)⟩ : Fin 32)
  | 1 => i 1

theorem mem_rowSet {j : Fin 32} {i : S1024x512.Idx} : i ∈ rowSet j ↔ blockOf i = j := by
  unfold rowSet rowRect
  rw [Rect.mem_set_unit]
  constructor
  · intro h
    have h1 : 32 * j.val ≤ (i 0).val ∧ (i 0).val < 32 * j.val + 32 := h 0
    exact Fin.ext (by show (i 0).val / 32 = j.val; omega)
  · rintro rfl a
    have b1 := (i 1).isLt
    match a with
    | 0 =>
      show 32 * ((i 0).val / 32) ≤ (i 0).val ∧ (i 0).val < 32 * ((i 0).val / 32) + 32
      omega
    | 1 => exact ⟨Nat.zero_le _, by simpa using b1⟩

theorem rowIdx_mem (j : Fin 32) (y : S32x512.Idx) : rowIdx j y ∈ rowSet j := (rowRect j).idx_mem y

theorem exists_rowIdx {j : Fin 32} {i : S1024x512.Idx} (h : i ∈ rowSet j) : ∃ y, rowIdx j y = i :=
  (rowRect j).exists_idx_of_mem h

theorem rowSet_disjoint (j j' : Fin 32) (h : j ≠ j') : Disjoint (rowSet j) (rowSet j') :=
  Finset.disjoint_left.mpr fun _ hi hi' => h ((mem_rowSet.mp hi).symm.trans (mem_rowSet.mp hi'))

theorem rowSet_cover : Finset.univ.biUnion rowSet = Finset.univ := by
  ext i
  simp only [Finset.mem_biUnion, Finset.mem_univ, true_and, iff_true]
  exact ⟨blockOf i, mem_rowSet.mpr rfl⟩

theorem blockOf_rowIdx (j : Fin 32) (y : S32x512.Idx) : blockOf (rowIdx j y) = j := mem_rowSet.mp (rowIdx_mem j y)

theorem inBlock_rowIdx (j : Fin 32) (y : S32x512.Idx) : inBlock (rowIdx j y) = y := by
  funext a
  match a with
  | 0 =>
    have h : (y 0).val < 32 := (y 0).isLt
    exact Fin.ext (by show (32 * j.val + 1 * (y 0).val) % 32 = (y 0).val; omega)
  | 1 => exact Fin.ext (by show 0 + 1 * (y 1).val = (y 1).val; omega)

/-- Contents of the result. -/
abbrev Rows (F : FTy → Type) [FloatOps F] := Vec F S1024x512 .f32

/-- What row block `j` holds. -/
def rowsOf (f : Rows F) (j : Fin 32) : Vec F S32x512 .f32 := fun y => f (rowIdx j y)

/-- The contents that hold `g j` in row block `j`. -/
def ofRows (g : Fin 32 → Vec F S32x512 .f32) : Rows F := fun i => g (blockOf i) (inBlock i)

theorem rowsOf_ofRows (g : Fin 32 → Vec F S32x512 .f32) (j : Fin 32) : rowsOf (ofRows g) j = g j := by
  funext y
  show g (blockOf (rowIdx j y)) (inBlock (rowIdx j y)) = g j y
  rw [blockOf_rowIdx, inBlock_rowIdx]

theorem eqOn_rows {f f' : Rows F} {j : Fin 32} (h : rowsOf f j = rowsOf f' j) : ∀ i ∈ rowSet j, f i = f' i := by
  intro i hi
  obtain ⟨y, rfl⟩ := exists_rowIdx hi
  exact congrFun h y

/-! ## A copy between two slots -/

section Copy

/-- The staging buffer, the receive buffer, the gather buffer and the result, whole. -/
abbrev stageM : Memref sig .tc .vmem S32x32x512 .bf16 := Memref.whole cc0_scratch0
abbrev recvM : Memref sig .tc .vmem S32x32x512 .bf16 := Memref.whole cc0_scratch1
abbrev gathM : Memref sig .tc .vmem S32x32x512 .bf16 := Memref.whole cc0_scratch2
abbrev outM : Memref sig .tc .vmem S1024x512 .f32 := Memref.whole cc0_stg1_0

variable {off off' : Fin 3 → ℕ} {j j' : Fin 32}

theorem stage_slot_set (e : off = ![j.val, 0, 0]) (h) : (slotAt stageM off h).view.set = slotSet j := by
  subst e
  exact (View.set_reshape _ _).trans (View.set_slice_whole _ _)

theorem recv_slot_set (e : off = ![j.val, 0, 0]) (h) : (slotAt recvM off h).view.set = slotSet j := by
  subst e
  exact (View.set_reshape _ _).trans (View.set_slice_whole _ _)

theorem gath_slot_set (e : off = ![j.val, 0, 0]) (h) : (slotAt gathM off h).view.set = slotSet j := by
  subst e
  exact (View.set_reshape _ _).trans (View.set_slice_whole _ _)

/-- A slot of the staging buffer copied into a slot of the receive buffer leaves there what the first slot held. -/
theorem copy_stage_recv (e : off = ![j.val, 0, 0]) (e' : off' = ![j'.val, 0, 0]) (h h') (fs fd g : Slots F)
    (hg : slotOf g j' = slotOf fs j) :
    ∀ i ∈ slotSet j', (slotAt recvM off' h').view.write (Elt F) fd ((slotAt stageM off h).view.read (Elt F) fs)
      Finset.univ i = g i := by
  subst e e'
  intro i hi
  rw [← recv_slot_set rfl h'] at hi
  obtain ⟨y, -, rfl⟩ := Finset.mem_map.mp hi
  refine (View.write_emb_of_mem _ _ (Finset.mem_univ y)).trans ?_
  exact (congrFun hg (Shape.reshapeEquiv squeezes_S1x32x512_S32x512.numel_eq y)).symm

/-- A slot of one gather buffer copied into a slot of another leaves there what the first slot held. -/
theorem copy_gath_gath (e : off = ![j.val, 0, 0]) (e' : off' = ![j'.val, 0, 0]) (h h') (fs fd g : Slots F)
    (hg : slotOf g j' = slotOf fs j) :
    ∀ i ∈ slotSet j', (slotAt gathM off' h').view.write (Elt F) fd ((slotAt gathM off h).view.read (Elt F) fs)
      Finset.univ i = g i := by
  subst e e'
  intro i hi
  rw [← gath_slot_set rfl h'] at hi
  obtain ⟨y, -, rfl⟩ := Finset.mem_map.mp hi
  refine (View.write_emb_of_mem _ _ (Finset.mem_univ y)).trans ?_
  exact (congrFun hg (Shape.reshapeEquiv squeezes_S1x32x512_S32x512.numel_eq y)).symm

end Copy

/-! ## Loads and stores of one slot or row block -/

section Access

variable {off : Fin 3 → ℕ} {rows : Fin 2 → ℕ} {j : Fin 32}

theorem stage_load (e : off = ![j.val, 0, 0]) (h) (f : Slots F) :
    stageM.view.readAt (Elt F) (Rect.unit (s := S32x32x512) off S1x32x512.size h).toLoadRect f = slotOf f j := by
  subst e; rfl

theorem recv_load (e : off = ![j.val, 0, 0]) (h) (f : Slots F) :
    recvM.view.readAt (Elt F) (Rect.unit (s := S32x32x512) off S1x32x512.size h).toLoadRect f = slotOf f j := by
  subst e; rfl

theorem gath_load (e : off = ![j.val, 0, 0]) (h) (f : Slots F) :
    gathM.view.readAt (Elt F) (Rect.unit (s := S32x32x512) off S1x32x512.size h).toLoadRect f = slotOf f j := by
  subst e; rfl

theorem slot_foot (e : off = ![j.val, 0, 0]) (h) (M : Memref sig .tc .vmem S32x32x512 .bf16) :
    M.view.setOn (Rect.unit (s := S32x32x512) off S1x32x512.size h).set = (slotSet j).map M.view.emb := by
  subst e; rfl

theorem stage_foot (e : off = ![j.val, 0, 0]) (h) :
    stageM.view.setOn (Rect.unit (s := S32x32x512) off S1x32x512.size h).set ⊆ slotSet j := by
  subst e; exact (Finset.map_refl (s := slotSet j)).subset

theorem recv_foot (e : off = ![j.val, 0, 0]) (h) :
    recvM.view.setOn (Rect.unit (s := S32x32x512) off S1x32x512.size h).set ⊆ slotSet j := by
  subst e; exact (Finset.map_refl (s := slotSet j)).subset

theorem gath_foot (e : off = ![j.val, 0, 0]) (h) :
    gathM.view.setOn (Rect.unit (s := S32x32x512) off S1x32x512.size h).set ⊆ slotSet j := by
  subst e; exact (Finset.map_refl (s := slotSet j)).subset

theorem out_foot (e : rows = ![32 * j.val, 0]) (h) :
    outM.view.setOn (Rect.unit (s := S1024x512) rows S32x512.size h).set ⊆ rowSet j := by
  subst e; exact (Finset.map_refl (s := rowSet j)).subset

theorem gath_store_foot (e : off = ![j.val, 0, 0]) (h) :
    (gathM.access (Rect.unit (s := S32x32x512) off S1x32x512.size h)).setOn Finset.univ ⊆ slotSet j := by
  subst e; exact (View.set_slice_whole _ _).subset

theorem out_store_foot (e : rows = ![32 * j.val, 0]) (h) :
    (outM.access (Rect.unit (s := S1024x512) rows S32x512.size h)).setOn Finset.univ ⊆ rowSet j := by
  subst e; exact (View.set_slice_whole _ _).subset

/-- A store of one slot of the gather buffer leaves the stored vector there. -/
theorem gath_store (e : off = ![j.val, 0, 0]) (h) (f g : Slots F) (w : Vec F S1x32x512 .bf16) (hg : slotOf g j = w) :
    ∀ i ∈ slotSet j, (gathM.access (Rect.unit (s := S32x32x512) off S1x32x512.size h)).write (Elt F) f w
      Finset.univ i = g i := by
  subst e hg
  intro i hi
  obtain ⟨y, rfl⟩ := exists_slotIdx hi
  exact View.write_emb_of_mem (v := gathM.access (slotRect j)) _ _ (Finset.mem_univ y)

/-- A store of one row block of the result leaves the stored vector there. -/
theorem out_store (e : rows = ![32 * j.val, 0]) (h) (f g : Rows F) (w : Vec F S32x512 .f32) (hg : rowsOf g j = w) :
    ∀ i ∈ rowSet j, (outM.access (Rect.unit (s := S1024x512) rows S32x512.size h)).write (Elt F) f w
      Finset.univ i = g i := by
  subst e hg
  intro i hi
  obtain ⟨y, rfl⟩ := exists_rowIdx hi
  exact View.write_emb_of_mem (v := outM.access (rowRect j)) _ _ (Finset.mem_univ y)

end Access

/-! ## What a copy of one slot counts -/

/-- What a copy into one slot adds to the semaphores it signals. -/
def unitN : ℕ := (slotAt recvM ![0, 0, 0] inb_S32x32x512_S1x32x512_0_0_0).view.dmaCredit

theorem unitN_pos : 0 < unitN := View.dmaCredit_pos _ (by decide)

theorem stage_credit (off : Fin 3 → ℕ) (h) : (slotAt stageM off h).view.dmaCredit = unitN := rfl
theorem recv_credit (off : Fin 3 → ℕ) (h) : (slotAt recvM off h).view.dmaCredit = unitN := rfl
theorem gath_credit (off : Fin 3 → ℕ) (h) : (slotAt gathM off h).view.dmaCredit = unitN := rfl

end Cert.KernelIdeal.Looped

end
-- ==== Proof.Schedule.lean ====
/-
The protocol between the devices.

Every device has one barrier cell and four arrays of 32 semaphores: the reduction's sends (0) and arrivals (1), the
gathering's sends (2) and arrivals (3). Each cell is used for one round.

* The barrier cell of `c` gets one unit from every other device `d`, and with it `d`'s two slots of its receive buffer
  and its two slots of its gather buffer that `c` is going to fill.
* Arrival cell `j` of the reduction gets one copy from the owner of slot `j`: slot `j` of the receive buffer, filled.
* Arrival cell `j` of the gathering gets one copy from the owner of slot `j`: slot `j` of the gather buffer, filled.
* A send cell gives back what the copy read: a slot of the staging buffer, or one of fifteen shares of a slot of the
  gather buffer.

A device waits at its barrier owing only arrivals, and for an arrival of the reduction owing only arrivals of the
gathering: the levels 1, 2, 3.
-/
module

public import proofs.«01_k».proof.Proof.Slots
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Transfers
public import Idealize.ShloMosaic.Lib.Tactic

@[expose] public section

noncomputable section

namespace Cert.KernelIdeal.Looped

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Cert.KernelIdeal.Gen

variable {F : FTy → Type} [FloatOps F]

/-! ## Resources -/

/-- The duties' resources: a duty is named by the device that pays it. -/
abbrev UB : Type := URounds (GSem nD τ sig) (Dev nD)
/-- The staging copies' resources beside them. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- A cell of the protocol: the barrier, or semaphore `j` of array `k`. -/
abbrev Cell : Type := Option (Fin 4 × Fin 32)

/-- The semaphore of a cell. -/
def csem : Cell → SemLoc sig
  | none => .reg barSem
  | some (k, j) => .dma (dsem k j)

/-- A cell of a device. -/
abbrev kcell (x : Dev nD × Cell) : GSem nD τ sig := ((x.1 : Thread nD τ), csem x.2)

set_option backward.proofsInPublic true in
/-- The cell a semaphore belongs to, if any. -/
def decode : SemLoc sig → Option Cell
  | .reg s => if s = barSem then some none else none
  | .dma q =>
    if 2 ≤ q.val then
      some (some (⟨(q.val - 2) / 32, by have h : q.val < 130 := q.isLt; omega⟩, ⟨(q.val - 2) % 32, Nat.mod_lt _ (by decide)⟩))
    else none

theorem decode_csem (x : Cell) : decode (csem x) = some x := by
  match x with
  | none =>
    show (if barSem = barSem then some none else none) = some none
    exact if_pos rfl
  | some (k, j) =>
    have hj := j.isLt
    have h2 : 2 ≤ (dsem k j).val := by show 2 ≤ 2 + 32 * k.val + j.val; omega
    refine (if_pos h2).trans ?_
    refine congrArg some (congrArg some (Prod.ext (Fin.ext ?_) (Fin.ext ?_)))
    · show (2 + 32 * k.val + j.val - 2) / 32 = k.val; omega
    · show (2 + 32 * k.val + j.val - 2) % 32 = j.val; omega

theorem csem_inj : Function.Injective csem := fun x y h => by
  have := (decode_csem x).symm.trans ((congrArg decode h).trans (decode_csem y))
  exact Option.some.inj this

theorem kcell_inj : Function.Injective kcell := fun x y h => by
  have h1 := congrArg (fun g : GSem nD τ sig => g.1.1) h
  have h2 := congrArg (fun g : GSem nD τ sig => g.2) h
  exact Prod.ext h1 (csem_inj h2)

/-! ## Contents -/

section Contents

variable (X : Dev nD → Vec F S1024x512 .bf16)

/-- The staging buffer of a device, filled with its rows. -/
def stageC (c : Dev nD) : Slots F := k0_pay1 (X c)

/-- The receive buffer of a device: slot `j` holds the rows the owner of slot `j` has for this device, of that half. -/
def recvC (c : Dev nD) : Slots F := ofSlots fun j => slotOf (stageC X (owner j)) (slot c (part j))

/-- The sum of half `h` of the chunk of device `s` over all devices, device `s` first, then around the ring. -/
def sumOf (s : Dev nD) (h : Fin 2) : FVec F S32x512 .f32 :=
  others.foldl (fun acc o => plus acc (slotOf (recvC X s) (slot (peer s o) h))) (wide (slotOf (stageC X s) (slot s h)))

/-- The gather buffer: slot `j` holds the rounded sum of the half it stands for. -/
def gathC : Slots F := ofSlots fun j => narrow (sumOf X (owner j) (part j))

/-- The result of device `c`: its own chunk as summed, the other chunks as gathered. -/
def outC (c : Dev nD) : Rows F :=
  ofRows fun j => if owner j = c then sumOf X c (part j) else wide (slotOf (gathC X) j)

theorem recvC_slot (c d : Dev nD) (h : Fin 2) :
    slotOf (recvC X c) (slot d h) = slotOf (stageC X d) (slot c h) := by
  unfold recvC; rw [slotOf_ofSlots, owner_slot, part_slot]

theorem gathC_slot (d : Dev nD) (h : Fin 2) : slotOf (gathC X) (slot d h) = narrow (sumOf X d h) := by
  unfold gathC; rw [slotOf_ofSlots, owner_slot, part_slot]

theorem outC_own (c : Dev nD) (h : Fin 2) : rowsOf (outC X c) (slot c h) = sumOf X c h := by
  unfold outC; rw [rowsOf_ofRows, owner_slot, part_slot, if_pos rfl]

theorem outC_other (c d : Dev nD) (h : Fin 2) (hd : d ≠ c) :
    rowsOf (outC X c) (slot d h) = wide (slotOf (gathC X) (slot d h)) := by
  unfold outC; rw [rowsOf_ofRows, owner_slot, if_neg hd]

end Contents

/-! ## Parts of buffers held -/

/-- Slot `j` of a device's staging buffer, holding `f` there. -/
def stagePts (c : Dev nD) (j : Fin 32) (f : Slots F) : sProp 𝕄 :=
  ((c : Thread nD τ).loc cc0_scratch0) ↦[slotSet j]{fullShare} f
/-- Slot `j` of a device's receive buffer. -/
def recvPts (c : Dev nD) (j : Fin 32) (f : Slots F) : sProp 𝕄 :=
  ((c : Thread nD τ).loc cc0_scratch1) ↦[slotSet j]{fullShare} f
/-- A share of slot `j` of a device's gather buffer. -/
def gathPts (c : Dev nD) (j : Fin 32) (q : PosShare TreeShare) (f : Slots F) : sProp 𝕄 :=
  ((c : Thread nD τ).loc cc0_scratch2) ↦[slotSet j]{q} f
/-- Row block `j` of a device's result. -/
def outPts (c : Dev nD) (j : Fin 32) (f : Rows F) : sProp 𝕄 :=
  ((c : Thread nD τ).loc cc0_stg1_0) ↦[rowSet j]{fullShare} f

instance stagePts_storable (c : Dev nD) (j f) : BI.Storable (upEmb : UEmb _ 𝕄) (stagePts (F := F) c j f) := by
  unfold stagePts; infer_instance
instance recvPts_storable (c : Dev nD) (j f) : BI.Storable (upEmb : UEmb _ 𝕄) (recvPts (F := F) c j f) := by
  unfold recvPts; infer_instance
instance gathPts_storable (c : Dev nD) (j q f) : BI.Storable (upEmb : UEmb _ 𝕄) (gathPts (F := F) c j q f) := by
  unfold gathPts; infer_instance

/-! ## The schedule -/

/-- The share of a gather slot the copy at distance `o + 1` reads. -/
abbrev lent (o : Fin 15) : PosShare TreeShare := shareTok fullShare 15 o
/-- The share that stays. -/
abbrev kept : PosShare TreeShare := shareDrop fullShare 15

/-- What device `d` hands device `c` at the barrier, for one half: the slots `c` fills. -/
def barHalf (c d : Dev nD) (h : Fin 2) : sProp 𝕄 :=
  iprop((∃ f, recvPts (F := F) d (slot c h) f) ∗ ∃ f, gathPts (F := F) d (slot c h) fullShare f)

/-- What device `d` hands device `c` at the barrier. -/
def barPay (c d : Dev nD) : sProp 𝕄 := bigSep Finset.univ fun h : Fin 2 => barHalf (F := F) c d h

instance barHalf_storable (c d : Dev nD) (h : Fin 2) : BI.Storable (upEmb : UEmb _ 𝕄) (barHalf (F := F) c d h) := by
  unfold barHalf
  infer_instance

instance barPay_storable (c d : Dev nD) : BI.Storable (upEmb : UEmb _ 𝕄) (barPay (F := F) c d) := by
  unfold barPay
  rw [bigSep_univ_eq_bigSepL halves halves_univ halves_nodup, bigSepL_cons_cons, bigSepL_singleton]
  exact inferInstanceAs (BI.Storable (upEmb : UEmb _ 𝕄) iprop(barHalf (F := F) c d 0 ∗ barHalf (F := F) c d 1))

set_option backward.proofsInPublic true in
/-- The distance a send semaphore stands for: semaphore `2 * (o + 1) + h` is the one at distance `o + 1`. -/
def dist (j : Fin 32) : Fin 15 := ⟨(j.val / 2 - 1) % 15, Nat.mod_lt _ (by decide)⟩

theorem dist_send (o : Fin 15) (h : Fin 2) : dist (slot (peer 0 o) h) = o := by revert o h; decide

/-- What a copy hands over on the semaphore it signals. -/
def copyPay (X : Dev nD → Vec F S1024x512 .bf16) (c : Dev nD) : Fin 4 → Fin 32 → sProp 𝕄
  | 0, j => stagePts c (slot (peer c (dist j)) (part j)) (stageC X c)
  | 1, j => recvPts c j (recvC X c)
  | 2, j => gathPts c (slot c (part j)) (lent (dist j)) (gathC X)
  | 3, j => gathPts c j fullShare (gathC X)

/-- What duty `d` of a cell hands over. -/
def cellPay (X : Dev nD → Vec F S1024x512 .bf16) (c : Dev nD) : Cell → Dev nD → sProp 𝕄
  | none, d => barPay c d
  | some (k, j), _ => copyPay X c k j

instance copyPay_storable (X : Dev nD → Vec F S1024x512 .bf16) (c : Dev nD) (k j) :
    BI.Storable (upEmb : UEmb _ 𝕄) (copyPay X c k j) := by
  match k with
  | 0 => unfold copyPay; infer_instance
  | 1 => unfold copyPay; infer_instance
  | 2 => unfold copyPay; infer_instance
  | 3 => unfold copyPay; infer_instance

instance cellPay_storable (X : Dev nD → Vec F S1024x512 .bf16) (c : Dev nD) (x d) :
    BI.Storable (upEmb : UEmb _ 𝕄) (cellPay X c x d) := by
  match x with
  | none => unfold cellPay; infer_instance
  | some (k, j) => unfold cellPay; infer_instance

/-- Who pays a cell. -/
def cellDuties (c : Dev nD) : Cell → Finset (Dev nD)
  | none => Finset.univ.erase c
  | some (k, j) =>
    if k = 1 ∨ k = 3 then (if owner j = c then ∅ else {owner j}) else (if owner j = 0 then ∅ else {c})

/-- How much each pays. -/
def cellUnit : Cell → ℕ
  | none => 1
  | some _ => unitN

theorem cellUnit_pos (x : Cell) : 0 < cellUnit x := by
  match x with
  | none => exact Nat.one_pos
  | some _ => exact unitN_pos

variable (X : Dev nD → Vec F S1024x512 .bf16)

/-- The protocol, one round per cell. -/
def proto : Rounds.Schedule (GSem nD τ sig) (Dev nD) 𝕄 where
  duties g r := if r = 0 ∧ g.1.2 = .tc then (decode g.2).elim ∅ (cellDuties g.1.1) else ∅
  unitless _ := False
  amount g _ _ := (decode g.2).elim 1 cellUnit
  payload g _ d := (decode g.2).elim iprop(emp) fun x => cellPay X g.1.1 x d
  amount_pos g _ _ _ := by
    cases decode g.2 with
    | none => exact Nat.one_pos
    | some x => exact cellUnit_pos x

instance proto_storable (g : GSem nD τ sig) (r : ℕ) (d : Dev nD) :
    BI.Storable (upEmb : UEmb _ 𝕄) ((proto X).payload g r d) := by
  show BI.Storable upEmb ((decode g.2).elim iprop(emp) fun x => cellPay X g.1.1 x d)
  cases decode g.2 with
  | none => exact inferInstanceAs (BI.Storable (upEmb : UEmb _ 𝕄) iprop(emp))
  | some x => exact cellPay_storable X g.1.1 x d

theorem duties_cell (c : Dev nD) (x : Cell) : (proto X).duties (kcell (c, x)) 0 = cellDuties c x := by
  show (if (0 : ℕ) = 0 ∧ (Proc.tc : Proc τ) = .tc then (decode (csem x)).elim ∅ (cellDuties c) else ∅) = _
  rw [if_pos ⟨rfl, rfl⟩, decode_csem]; rfl

theorem duties_later (g : GSem nD τ sig) (r : ℕ) (hr : 1 ≤ r) : (proto X).duties g r = ∅ :=
  if_neg fun h => by omega

theorem amount_cell (c : Dev nD) (x : Cell) (r : ℕ) (d : Dev nD) : (proto X).amount (kcell (c, x)) r d = cellUnit x := by
  show (decode (csem x)).elim 1 cellUnit = _
  rw [decode_csem]; rfl

theorem payload_cell (c : Dev nD) (x : Cell) (r : ℕ) (d : Dev nD) :
    (proto X).payload (kcell (c, x)) r d = cellPay X c x d := by
  show ((decode (csem x)).elim iprop(emp) fun x => cellPay X c x d) = _
  rw [decode_csem]; rfl

/-- Barrier duties: one per other device. -/
theorem mem_bar (c d : Dev nD) (h : d ≠ c) : d ∈ (proto X).duties (kcell (c, none)) 0 := by
  rw [duties_cell]; exact Finset.mem_erase.mpr ⟨h, Finset.mem_univ _⟩

theorem duties_arrival (c : Dev nD) {k : Fin 4} (hk : k = 1 ∨ k = 3) (d : Dev nD) (h : Fin 2) (hd : d ≠ c) :
    (proto X).duties (kcell (c, some (k, slot d h))) 0 = {d} := by
  rw [duties_cell]
  show (if k = 1 ∨ k = 3 then _ else _) = _
  rw [if_pos hk, owner_slot, if_neg hd]

theorem duties_send (c : Dev nD) {k : Fin 4} (hk : ¬ (k = 1 ∨ k = 3)) (o : Fin 15) (h : Fin 2) :
    (proto X).duties (kcell (c, some (k, slot (peer 0 o) h))) 0 = {c} := by
  rw [duties_cell]
  show (if k = 1 ∨ k = 3 then _ else _) = _
  rw [if_neg hk, owner_slot, if_neg (peer_ne 0 o)]

/-- A slot's own cells are never used. -/
theorem duties_arrival_own (c : Dev nD) {k : Fin 4} (hk : k = 1 ∨ k = 3) (h : Fin 2) :
    (proto X).duties (kcell (c, some (k, slot c h))) 0 = ∅ := by
  rw [duties_cell]
  show (if k = 1 ∨ k = 3 then _ else _) = _
  rw [if_pos hk, owner_slot, if_pos rfl]

theorem duties_send_own (c : Dev nD) {k : Fin 4} (hk : ¬ (k = 1 ∨ k = 3)) (h : Fin 2) :
    (proto X).duties (kcell (c, some (k, slot 0 h))) 0 = ∅ := by
  rw [duties_cell]
  show (if k = 1 ∨ k = 3 then _ else _) = _
  rw [if_neg hk, owner_slot, if_pos rfl]

theorem expect_bar (c : Dev nD) : (proto X).expect (kcell (c, none)) 0 = 15 := by
  unfold Schedule.expect Schedule.amountOf
  rw [Finset.sum_congr rfl fun d _ => amount_cell X c none 0 d, duties_cell]
  show ∑ _d ∈ Finset.univ.erase c, 1 = 15
  rw [Finset.sum_const, smul_eq_mul, mul_one, Finset.card_erase_of_mem (Finset.mem_univ c), Finset.card_univ]
  rfl

theorem expect_one (c : Dev nD) (x : Fin 4 × Fin 32) (d : Dev nD) (hd : (proto X).duties (kcell (c, some x)) 0 = {d}) :
    (proto X).expect (kcell (c, some x)) 0 = unitN := by
  unfold Schedule.expect Schedule.amountOf
  rw [hd, Finset.sum_singleton, amount_cell]; rfl

/-- The whole round of a cell with one duty. -/
theorem rest_one (c : Dev nD) (x : Fin 4 × Fin 32) (d : Dev nD) (hd : (proto X).duties (kcell (c, some x)) 0 = {d}) :
    bigSep ((proto X).duties (kcell (c, some x)) 0 \ ∅) (fun d => (proto X).payload (kcell (c, some x)) 0 d)
      = copyPay X c x.1 x.2 := by
  rw [Finset.sdiff_empty, hd, bigSep_singleton, payload_cell]; rfl

/-- The whole round of a barrier cell: every other device's slots. -/
theorem rest_bar (c : Dev nD) :
    bigSep ((proto X).duties (kcell (c, none)) 0 \ ∅) (fun d => (proto X).payload (kcell (c, none)) 0 d)
      = bigSep Finset.univ fun o : Fin 15 => barPay (F := F) c (peer c o) := by
  rw [Finset.sdiff_empty, duties_cell, bigSep_congr fun d _ => payload_cell X c none 0 d]
  show bigSep (Finset.univ.erase c) (fun d => barPay (F := F) c d) = _
  rw [bigSep_eq_bigSepL_of_eq _ (others_eq c) (others_nodup c), bigSepL_map,
    bigSep_univ_eq_bigSepL others others_univ others_nodup']

/-! ## What a device owes, and the levels -/

/-- What is owed: the listed cells' units. -/
def owedL : List (Dev nD × Cell) → CellTallies nD τ sig Unit
  | [] => 0
  | x :: xs => owedL xs + tallyAt (kcell x) () (cellUnit x.2)

abbrev barDue (c : Dev nD) (o : Fin 15) : Dev nD × Cell := (peer c o, none)
abbrev scatterDue (c : Dev nD) (p : Fin 2 × Fin 15) : Dev nD × Cell := (peer c p.2, some (1, slot c p.1))
abbrev gatherDue (c : Dev nD) (p : Fin 2 × Fin 15) : Dev nD × Cell := (peer c p.2, some (3, slot c p.1))

/-- All a device owes at the start, in the order it pays. -/
def dues (c : Dev nD) : List (Dev nD × Cell) :=
  others.map (barDue c) ++ (pairs.map (scatterDue c) ++ pairs.map (gatherDue c))

/-- The cells that may be waited on: a tensor core's. -/
def L (g : GSem nD τ sig) : Finset Unit := if g.1.2 = .tc then {()} else ∅

/-- The barrier at 1, the reduction's arrivals at 2, the gathering's at 3, everything else at 0. -/
def cellLevel : Cell → ℕ
  | none => 1
  | some (k, _) => if k = 1 then 2 else if k = 3 then 3 else 0

def lv (g : GSem nD τ sig) (_ : Unit) : ℕ := (decode g.2).elim 0 cellLevel

theorem L_of_ne (g : GSem nD τ sig) (h : g.1.2 ≠ .tc) : L g = ∅ := if_neg h
theorem L_tc (c : Dev nD) (sm : SemLoc sig) : L ((c : Thread nD τ), sm) = {()} := if_pos rfl

theorem lv_cell (x : Dev nD × Cell) : lv (kcell x) () = cellLevel x.2 := by
  show (decode (csem x.2)).elim 0 cellLevel = _
  rw [decode_csem]; rfl

theorem owedL_pos {l : List (Dev nD × Cell)} {g : GSem nD τ sig} {u : Unit} (h : 0 < owedL l g u) :
    ∃ x ∈ l, g = kcell x := by
  induction l with
  | nil => exact absurd h (Nat.lt_irrefl 0)
  | cons x xs ih =>
    unfold owedL at h
    rw [Pi.add_apply, Finsupp.add_apply, tallyAt_apply] at h
    by_cases hg : g = kcell x
    · exact ⟨x, List.mem_cons_self, hg⟩
    · rw [if_neg (fun h' => hg h'.1), Nat.add_zero] at h
      obtain ⟨y, hy, e⟩ := ih h
      exact ⟨y, List.mem_cons_of_mem _ hy, e⟩

/-- A wait on a semaphore below everything owed. -/
theorem mayWait_below (c : Dev nD) (sm : SemLoc sig) (l : List (Dev nD × Cell))
    (h : ∀ y ∈ l, lv ((c : Thread nD τ), sm) () < cellLevel y.2) :
    (levAts L lv : sProp 𝕄) ⊢ MayWait (c : Thread nD τ) sm () (owedL l) :=
  MayOwe.of_cut (L := L) (lev := lv) (lv ((c : Thread nD τ), sm) ())
    (fun p hp => by rw [Finset.mem_singleton.mp hp, L_tc]; exact Finset.mem_singleton_self _)
    (fun g u hg => by
      obtain ⟨y, -, rfl⟩ := owedL_pos hg
      rw [L_tc]; exact Finset.mem_singleton_self _)
    (fun p hp => by rw [Finset.mem_singleton.mp hp])
    (fun g u hg => by
      obtain ⟨y, hy, rfl⟩ := owedL_pos hg
      rw [lv_cell]; exact h y hy)

/-- A wait on a cell below everything owed. -/
theorem mayWait_cell (c : Dev nD) (x : Cell) (l : List (Dev nD × Cell)) (h : ∀ y ∈ l, cellLevel x < cellLevel y.2) :
    (levAts L lv : sProp 𝕄) ⊢ MayWait (c : Thread nD τ) (csem x) () (owedL l) :=
  mayWait_below c (csem x) l fun y hy => by rw [lv_cell (c, x)]; exact h y hy

end Cert.KernelIdeal.Looped

end
-- ==== Proof.Loops.lean ====
/-
Loops, reasoned about one round at a time.

A round of a loop takes what is carried, `J`, at the elements still to come, and what belongs to the element of the
round, and leaves `J` at the elements after it and what the round gives. Then the loop takes `J` and all the elements'
shares to the last `J` and all that the rounds give.
-/
module

public import proofs.«01_k».proof.Proof.Schedule

@[expose] public section

noncomputable section

namespace Cert.KernelIdeal.Looped

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- No recursion variants: the body calls nothing. -/
abbrev 𝒱₀ : Variants := Variants.none

/-- Device `c` runs `p` safely, ending with `Q`. -/
abbrev Runs {α : Type} (c : Dev nD) (p : Prog (Ops F) α) (Q : α → sProp 𝕄) : sProp 𝕄 :=
  wp frame (wpE (defs₀ (F := F)) 𝒱₀ (c : Thread nD τ) none) Set.univ p Q

variable {α β : Type} {c : Dev nD}

/-- The end of a run, weakened. -/
theorem runs_wand {p : Prog (Ops F) α} {Q Q' : α → sProp 𝕄} :
    iprop(Runs c p Q ∗ ∀ a, Q a -∗ Q' a) ⊢ Runs c p Q' :=
  wp_wand_r frame (wpE (defs₀ (F := F)) 𝒱₀ (c : Thread nD τ) none) Set.univ

/-- A program that only returns. -/
theorem runs_pure {a : α} {Q : α → sProp 𝕄} : Q a ⊢ Runs c (pure a) Q := by
  unfold Runs
  rw [Prog.pure_eq_ret, wp_ret]
  iintro H
  imodintro
  iexact H

/-- Two programs in a row. -/
theorem runs_bind {p : Prog (Ops F) α} {k : α → Prog (Ops F) β} {R : α → sProp 𝕄} {Q : β → sProp 𝕄} :
    iprop(Runs c p R ∗ ∀ a, R a -∗ Runs c (k a) Q) ⊢ Runs c (p >>= k) Q := by
  have h : Runs c (p >>= k) Q = Runs c p fun a => Runs c (k a) Q := wp_bind ..
  rw [h]
  exact runs_wand

theorem runs_each (I : sProp 𝕄) [BI.Persistent I] (f : α → Prog (Ops F) PUnit) (J : List α → sProp 𝕄) (Pre Post : α → sProp 𝕄)
    (step : ∀ x xs, iprop(I ∗ J (x :: xs) ∗ Pre x) ⊢ Runs c (f x) fun _ => iprop(J xs ∗ Post x)) (l : List α) :
    iprop(I ∗ J l ∗ bigSepL l Pre) ⊢ Runs c (each f l) fun _ => iprop(J [] ∗ bigSepL l Post) := by
  induction l with
  | nil =>
    unfold each
    rw [bigSepL_nil, bigSepL_nil]
    iintro ⟨-, HJ, HE⟩
    iapply runs_pure
    isplitl [HJ] <;> iassumption
  | cons x xs ih =>
    unfold each
    rw [bigSepL_cons', bigSepL_cons']
    iintro ⟨#HI, HJ, Hx, Hxs⟩
    iapply (runs_bind (R := fun _ => iprop(J xs ∗ Post x)))
    isplitl [HJ Hx]
    · iapply (step x xs)
      isplitr; · iexact HI
      isplitl [HJ] <;> iassumption
    · iintro %_ ⟨HJ, HP⟩
      iapply (runs_wand (Q := fun _ => iprop(J [] ∗ bigSepL xs Post)))
      isplitl [HJ Hxs]
      · iapply ih
        isplitr; · iexact HI
        isplitl [HJ] <;> iassumption
      · iintro %_ ⟨HJ, HPs⟩
        isplitl [HJ]; · iexact HJ
        isplitl [HP] <;> iassumption

theorem runs_eachWith (I : sProp 𝕄) [BI.Persistent I] (f : β → α → Prog (Ops F) β) (g : β → α → β) (J : List α → sProp 𝕄) (Pre Post : α → sProp 𝕄)
    (step : ∀ b x xs, iprop(I ∗ J (x :: xs) ∗ Pre x) ⊢ Runs c (f b x) fun r => iprop(⌜r = g b x⌝ ∗ J xs ∗ Post x))
    (l : List α) (b : β) :
    iprop(I ∗ J l ∗ bigSepL l Pre)
      ⊢ Runs c (eachWith f b l) fun r => iprop(⌜r = l.foldl g b⌝ ∗ J [] ∗ bigSepL l Post) := by
  induction l generalizing b with
  | nil =>
    unfold eachWith
    rw [bigSepL_nil, bigSepL_nil]
    iintro ⟨-, HJ, HE⟩
    iapply runs_pure
    isplitr; · ipureintro; rfl
    isplitl [HJ] <;> iassumption
  | cons x xs ih =>
    unfold eachWith
    rw [bigSepL_cons', bigSepL_cons']
    iintro ⟨#HI, HJ, Hx, Hxs⟩
    iapply (runs_bind (R := fun r => iprop(⌜r = g b x⌝ ∗ J xs ∗ Post x)))
    isplitl [HJ Hx]
    · iapply (step b x xs)
      isplitr; · iexact HI
      isplitl [HJ] <;> iassumption
    · iintro %r ⟨%hr, HJ, HP⟩
      subst hr
      iapply (runs_wand (Q := fun r => iprop(⌜r = xs.foldl g (g b x)⌝ ∗ J [] ∗ bigSepL xs Post)))
      isplitl [HJ Hxs]
      · iapply (ih (g b x))
        isplitr; · iexact HI
        isplitl [HJ] <;> iassumption
      · iintro %r ⟨%hr, HJ, HPs⟩
        isplitr; · ipureintro; exact hr
        isplitl [HJ]; · iexact HJ
        isplitl [HP] <;> iassumption

end Cert.KernelIdeal.Looped

end
-- ==== Proof.Steps.lean ====
/-
One round of each loop of the kernel, at a device `c`.

Each theorem takes what the round needs and what the device still owes, and gives what the round leaves and what is owed
after it.
-/
module

public import proofs.«01_k».proof.Proof.Loops

@[expose] public section

noncomputable section

namespace Cert.KernelIdeal.Looped

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Cert.KernelIdeal.Gen

variable {F : FTy → Type} [FloatOps F]

local notation "𝕄" => MT nD τ sig Unit (Elt F) ℕ UU ℕ

variable (X : Dev nD → Vec F S1024x512 .bf16) (K : Dev nD × Cell → ℕ)

/-! ## What every device knows -/

/-- Every cell follows the protocol and has reached its round. -/
def record (x : Dev nD × Cell) : sProp 𝕄 := iprop(cellInv ER (proto X) (K x) (kcell x) ∗ reached ER (kcell x) 0)

instance record_persistent (x : Dev nD × Cell) : BI.Persistent (record X K x) := by unfold record; infer_instance

def records : sProp 𝕄 := bigSep Finset.univ fun x => record X K x

instance records_persistent : BI.Persistent (records X K) := by unfold records; infer_instance

/-- The protocol and the levels. -/
def Know : sProp 𝕄 := iprop(records X K ∗ levAts L lv)

instance Know_persistent : BI.Persistent (Know X K) := by unfold Know; infer_instance

theorem know_cell (x : Dev nD × Cell) :
    Know X K ⊢ iprop(cellInv ER (proto X) (K x) (kcell x) ∗ reached ER (kcell x) 0) := by
  have h : records X K ⊢ record X K x := bigSep_elim (Φ := fun x => record X K x) (Finset.mem_univ x)
  unfold Know
  iintro ⟨H, -⟩
  ihave H' := h $$ H
  unfold record
  iexact H'

/-- A device may wait on a cell below everything it owes. -/
theorem know_wait (c : Dev nD) (x : Cell) (l : List (Dev nD × Cell)) (h : ∀ y ∈ l, cellLevel x < cellLevel y.2) :
    Know X K ⊢ MayWait (c : Thread nD τ) (csem x) () (owedL l) := by
  unfold Know
  iintro ⟨-, H⟩
  iapply (mayWait_cell c x l h)
  iexact H

/-- Device `c` owes the listed cells. -/
def Owes (c : Dev nD) (l : List (Dev nD × Cell)) : sProp 𝕄 := iprop(∃ W, owes (c : Thread nD τ) (owedL l) W)

/-- Units of a cell the owner may wait for. -/
abbrev credOf (c : Dev nD) (x : Cell) (n : ℕ) : sProp 𝕄 := cred (tallyAt (kcell (c, x)) () n)

/-- The owner of a cell stands at round `r`. -/
abbrev posOf (c : Dev nD) (x : Cell) (r : ℕ) : sProp 𝕄 := atPos ER (kcell (c, x)) r ∅ 0

/-- Device `d`'s right to pay a cell. -/
abbrev tokOf (x : Dev nD × Cell) (d : Dev nD) : sProp 𝕄 := dutyTok ER (kcell x) 0 d

theorem cellPay_bar (c d : Dev nD) : cellPay X c none d = barPay (F := F) c d := rfl

/-! ## The barrier -/

/-- What the signal to the device at distance `o + 1` needs: the right to pay it, and the slots it hands over. -/
def signalPre (c : Dev nD) (o : Fin 15) : sProp 𝕄 :=
  iprop(tokOf (peer c o, none) c ∗ barPay (F := F) (peer c o) c)

theorem signal_step (c : Dev nD) (o : Fin 15) (rest : List (Dev nD × Cell)) :
    iprop(Know X K ∗ Owes c (barDue c o :: rest) ∗ signalPre (F := F) c o)
      ⊢ Runs c (semSignalWord (barDev c o) barSem 1#32) fun _ => iprop(Owes c rest ∗ emp) := by
  unfold Owes signalPre
  rw [barDev_eq]
  simp only [semSignalWord, Prog.lift]
  iintro ⟨#HI, ⟨%W, HO⟩, Ht, Hp⟩
  ihave HC := (know_cell X K (peer c o, none)) $$ HI
  icases HC with ⟨#Hinv, #Hr⟩
  iapply (Rounds.wp_signal 𝒱₀ ER (proto X) (c : Thread nD τ) none (dst := (peer c o : Thread nD τ)) (κ := K (peer c o, none))
      (d := c) (mem_bar X (peer c o) c (peer_ne c o).symm) ((amount_cell X (peer c o) none 0 c).trans (by decide)) ()
      (owedL rest) rfl) $$ [HO Ht Hp]
  · isplitr; · iexact Hinv
    isplitl [HO]; · iexact HO
    isplitl [Ht]; · iexact Ht
    isplitl [Hp]
    · rw [show ((peer c o : Thread nD τ), SemLoc.reg barSem) = kcell (peer c o, none) from rfl, payload_cell, cellPay_bar]
      iexact Hp
    iexact Hr
  iintro HO
  rw [wp_ret]; imodintro
  isplitl [HO]
  · iexists W; iexact HO
  iempintro

/-- The wait at the barrier gives the slots of every other device that this one fills. -/
theorem barrier_wait (c : Dev nD) (l : List (Dev nD × Cell)) (hl : ∀ y ∈ l, cellLevel none < cellLevel y.2) :
    iprop(Know X K ∗ Owes c l ∗ credOf c none 15 ∗ posOf c none 0)
      ⊢ Runs c (semWaitWord barSem 15#32)
          fun _ => iprop(Owes c l ∗ posOf c none 1 ∗ bigSep Finset.univ fun o : Fin 15 => barPay (F := F) c (peer c o)) := by
  have hw : Know X K ⊢ MayWait (c : Thread nD τ) (.reg barSem) () (owedL l) := know_wait X K c none l hl
  unfold Owes
  simp only [semWaitWord, Prog.lift]
  iintro ⟨#HI, ⟨%W, HO⟩, Hc, Hat⟩
  ihave HC := (know_cell X K (c, none)) $$ HI
  icases HC with ⟨#Hinv, #Hr⟩
  iapply (Rounds.wp_wait_rest_token 𝒱₀ ER (proto X) (c : Thread nD τ) none (κ := K (c, none))
      (wpE_semWait_eq 𝒱₀ (c : Thread nD τ) none Set.univ) (Set.mem_univ _) () (O := owedL l) (W := W) (R := 0) (m := 0) (T := ∅)
      ((Nat.zero_add _).trans (expect_bar X c).symm)) $$ [Hc HO Hat]
  · isplitr; · iexact Hinv
    isplitl [Hc]; · iexact Hc
    isplitl [HO]; · iexact HO
    isplitr
    · iapply hw; iexact HI
    iexact Hat
  iintro ⟨HO, Hat, -, Hpay⟩
  rw [wp_ret]; imodintro
  isplitl [HO]
  · iexists (insert (SemLoc.reg barSem, ()) W); iexact HO
  isplitl [Hat]; · iexact Hat
  iapply (Entails.of_eq (rest_bar X c)); iexact Hpay

/-! ## Waits for copies -/

/-- A wait for the one copy of a cell, in the form a program spells it. -/
theorem wait_copy (c : Dev nD) (k : Fin 4) (j : Fin 32) (d : Dev nD) (hd : (proto X).duties (kcell (c, some (k, j))) 0 = {d})
    (l : List (Dev nD × Cell)) (hl : ∀ y ∈ l, cellLevel (some (k, j)) < cellLevel y.2)
    {sem : DmaSem sig} (hs : sem = dsem k j) {sp sp' : Space} {s s' : Shape} {e e' : EltTy}
    (src : Memref sig .tc sp s e) (dst : Memref sig .tc sp' s' e') (hN : dst.view.dmaCredit = unitN)
    (hsrc : src.view.WordExact) (hdst : dst.view.WordExact) :
    iprop(Know X K ∗ Owes c l ∗ credOf c (some (k, j)) unitN ∗ posOf c (some (k, j)) 0)
      ⊢ Runs (F := F) c (Prog.lift (.waitDma2 sem src dst hsrc hdst))
          fun _ => iprop(Owes c l ∗ posOf c (some (k, j)) 1 ∗ copyPay X c k j) := by
  subst hs
  have hw : Know X K ⊢ MayWait (c : Thread nD τ) (.dma (dsem k j)) () (owedL l) :=
    know_wait X K c (some (k, j)) l hl
  unfold Owes
  simp only [Prog.lift]
  iintro ⟨#HI, ⟨%W, HO⟩, Hc, Hat⟩
  ihave HC := (know_cell X K (c, some (k, j))) $$ HI
  icases HC with ⟨#Hinv, #Hr⟩
  iapply (Rounds.wp_wait_rest_token 𝒱₀ ER (proto X) (c : Thread nD τ) none (κ := K (c, some (k, j)))
      (wpE_waitDma2_eq 𝒱₀ (c : Thread nD τ) none Set.univ) (Set.mem_univ _) () (O := owedL l) (W := W) (R := 0) (m := 0) (T := ∅)
      ((Nat.zero_add _).trans (hN.trans (expect_one X c (k, j) d hd).symm))) $$ [Hc HO Hat]
  · isplitr; · iexact Hinv
    isplitl [Hc]; · rw [hN]; iexact Hc
    isplitl [HO]; · iexact HO
    isplitr
    · iapply hw; iexact HI
    iexact Hat
  iintro ⟨HO, Hat, -, Hpay⟩
  rw [wp_ret]; imodintro
  isplitl [HO]
  · iexists (insert (SemLoc.dma (dsem k j), ()) W); iexact HO
  isplitl [Hat]; · iexact Hat
  iapply (Entails.of_eq (rest_one X c (k, j) d hd)); iexact Hpay

/-! ## Parts of buffers as the program names them -/

theorem stagePts_view (c : Dev nD) {off : Fin 3 → ℕ} {j : Fin 32} (e : off = ![j.val, 0, 0]) (h) (f : Slots F) :
    stagePts c j f = ((slotAt stageM off h).view.loc (c : Thread nD τ) ↦[(slotAt stageM off h).view.set]{fullShare} f : sProp 𝕄) := by
  rw [stage_slot_set e h]; rfl

theorem recvPts_view (c : Dev nD) {off : Fin 3 → ℕ} {j : Fin 32} (e : off = ![j.val, 0, 0]) (h) (f : Slots F) :
    recvPts c j f = ((slotAt recvM off h).view.loc (c : Thread nD τ) ↦[(slotAt recvM off h).view.set]{fullShare} f : sProp 𝕄) := by
  rw [recv_slot_set e h]; rfl

theorem gathPts_view (c : Dev nD) {off : Fin 3 → ℕ} {j : Fin 32} (e : off = ![j.val, 0, 0]) (h) (q : PosShare TreeShare) (f : Slots F) :
    gathPts c j q f = ((slotAt gathM off h).view.loc (c : Thread nD τ) ↦[(slotAt gathM off h).view.set]{q} f : sProp 𝕄) := by
  rw [gath_slot_set e h]; rfl

/-- Contents that agree on a slot are the same there. -/
theorem recvPts_congr (c : Dev nD) (j : Fin 32) (f g : Slots F) (h : ∀ i ∈ slotSet j, f i = g i) :
    recvPts c j f = recvPts (F := F) c j g := pointsTo_congr h
theorem gathPts_congr (c : Dev nD) (j : Fin 32) (q : PosShare TreeShare) (f g : Slots F) (h : ∀ i ∈ slotSet j, f i = g i) :
    gathPts c j q f = gathPts (F := F) c j q g := pointsTo_congr h
theorem outPts_congr (c : Dev nD) (j : Fin 32) (f g : Rows F) (h : ∀ i ∈ rowSet j, f i = g i) :
    outPts c j f = outPts (F := F) c j g := pointsTo_congr h

/-! ## The reduction's copies -/

theorem not_arrival_zero : ¬ ((0 : Fin 4) = 1 ∨ (0 : Fin 4) = 3) := by decide
theorem not_arrival_two : ¬ ((2 : Fin 4) = 1 ∨ (2 : Fin 4) = 3) := by decide

/-- What a copy of the reduction needs: the slot it reads, the slot it fills, and the rights to pay both cells. -/
def scatterPre (c : Dev nD) (p : Fin 2 × Fin 15) : sProp 𝕄 :=
  iprop(stagePts c (slot (peer c p.2) p.1) (stageC X c) ∗ (∃ f, recvPts (F := F) (peer c p.2) (slot c p.1) f)
    ∗ tokOf (c, some (0, slot (peer 0 p.2) p.1)) c ∗ tokOf (peer c p.2, some (1, slot c p.1)) c)

/-- The cell a copy's departure pays has its sender's duty, and the cell its arrival pays too. -/
theorem mem_send (c : Dev nD) {k : Fin 4} (hk : ¬ (k = 1 ∨ k = 3)) (o : Fin 15) (h : Fin 2) :
    c ∈ (proto X).duties ((c : Thread nD τ), SemLoc.dma (dsem k (slot (peer 0 o) h))) 0 :=
  (duties_send X c hk o h).symm ▸ Finset.mem_singleton_self c
theorem mem_arrival (c : Dev nD) {k : Fin 4} (hk : k = 1 ∨ k = 3) (o : Fin 15) (h : Fin 2) :
    c ∈ (proto X).duties ((peer c o : Thread nD τ), SemLoc.dma (dsem k (slot c h))) 0 :=
  (duties_arrival X (peer c o) hk c h (peer_ne c o).symm).symm ▸ Finset.mem_singleton_self c

/-- What a copy cell's duty hands over. -/
theorem pay_copy (c d : Dev nD) (k : Fin 4) (j : Fin 32) :
    (proto X).payload ((c : Thread nD τ), SemLoc.dma (dsem k j)) 0 d = copyPay X c k j := payload_cell X c (some (k, j)) 0 d

theorem scatter_pay_src (c d : Dev nD) (h : Fin 2) (o : Fin 15) {offs : Fin 3 → ℕ} (es : offs = ![(slot (peer c o) h).val, 0, 0]) (hs) :
    ((slotAt stageM offs hs).view.loc (c : Thread nD τ) ↦[(slotAt stageM offs hs).view.set]{fullShare} stageC X c : sProp 𝕄)
      ⊢ (proto X).payload ((c : Thread nD τ), SemLoc.dma (dsem 0 (slot (peer 0 o) h))) 0 d := by
  rw [pay_copy, ← stagePts_view c es hs]
  show _ ⊢ stagePts c (slot (peer c (dist (slot (peer 0 o) h))) (part (slot (peer 0 o) h))) (stageC X c)
  rw [dist_send, part_slot]

theorem scatter_pay_dst (c d n : Dev nD) (h : Fin 2) (o : Fin 15) {offs offd : Fin 3 → ℕ}
    (es : offs = ![(slot n h).val, 0, 0]) (ed : offd = ![(slot c h).val, 0, 0]) (hs hd) (fd : Slots F) :
    ((slotAt recvM offd hd).view.loc (n : Thread nD τ) ↦[(slotAt recvM offd hd).view.set]{fullShare}
        (slotAt recvM offd hd).view.write (Elt F) fd ((slotAt stageM offs hs).view.read (Elt F) (stageC X c)) Finset.univ : sProp 𝕄)
      ⊢ (proto X).payload ((n : Thread nD τ), SemLoc.dma (dsem 1 (slot c h))) 0 d := by
  rw [pay_copy, ← recvPts_view n ed hd]
  show _ ⊢ recvPts n (slot c h) (recvC X n)
  rw [recvPts_congr n _ _ _ (copy_stage_recv es ed hs hd (stageC X c) fd (recvC X n) (recvC_slot X n c h))]

theorem gather_pay_src (c d : Dev nD) (h : Fin 2) (o : Fin 15) {offs : Fin 3 → ℕ} (es : offs = ![(slot c h).val, 0, 0]) (hs) :
    ((slotAt gathM offs hs).view.loc (c : Thread nD τ) ↦[(slotAt gathM offs hs).view.set]{lent o} gathC X : sProp 𝕄)
      ⊢ (proto X).payload ((c : Thread nD τ), SemLoc.dma (dsem 2 (slot (peer 0 o) h))) 0 d := by
  rw [pay_copy, ← gathPts_view c es hs]
  show _ ⊢ gathPts c (slot c (part (slot (peer 0 o) h))) (lent (dist (slot (peer 0 o) h))) (gathC X)
  rw [dist_send, part_slot]

theorem gather_pay_dst (c d n : Dev nD) (h : Fin 2) {offs : Fin 3 → ℕ} (es : offs = ![(slot c h).val, 0, 0]) (hs) (fd : Slots F) :
    ((slotAt gathM offs hs).view.loc (n : Thread nD τ) ↦[(slotAt gathM offs hs).view.set]{fullShare}
        (slotAt gathM offs hs).view.write (Elt F) fd ((slotAt gathM offs hs).view.read (Elt F) (gathC X)) Finset.univ : sProp 𝕄)
      ⊢ (proto X).payload ((n : Thread nD τ), SemLoc.dma (dsem 3 (slot c h))) 0 d := by
  rw [pay_copy, ← gathPts_view n es hs]
  show _ ⊢ gathPts n (slot c h) fullShare (gathC X)
  rw [gathPts_congr n _ _ _ _ (copy_gath_gath es es hs hs (gathC X) fd (gathC X) rfl)]

/-- A copy of one slot to device `n`, which pays cell `(k₁, j₁)` here when it has left and cell `(k₂, j₂)` there when it has
    arrived. The buffers are any two; the two entailments say what each cell is paid with. -/
theorem send_copy (c n n' : Dev nD) (hn : n' = n) {src dst : Memref sig .tc .vmem S32x512 .bf16} {k₁ k₂ : Fin 4} {j₁ j₂ : Fin 32}
    {ss rs : DmaSem sig} (ess : ss = dsem k₁ j₁) (ers : rs = dsem k₂ j₂)
    {hsc : (dst : Memref sig (Dev.tc n' : Thread nD τ).2.kind .vmem S32x512 .bf16).view.ref.isScScratch = false}
    {hsrc : src.view.WordExact} {hdst : dst.view.WordExact}
    {hsem : DmaTarget.Typed .vmem (.dma rs) (.remote (Dev.tc n' : Thread nD τ) dst (.dma ss) hsc)}
    (hd₁ : c ∈ (proto X).duties ((c : Thread nD τ), SemLoc.dma (dsem k₁ j₁)) 0)
    (hd₂ : c ∈ (proto X).duties ((n : Thread nD τ), SemLoc.dma (dsem k₂ j₂)) 0)
    (hN : dst.view.dmaCredit = unitN) {q : PosShare TreeShare}
    (fs : Buf (Elt F) (src.view.loc (c : Thread nD τ))) (P : Buf (Elt F) (dst.view.loc (n : Thread nD τ)) → sProp 𝕄)
    (hP : ∀ f, P f ⊢ (dst.view.loc (n : Thread nD τ) ↦[dst.view.set]{fullShare} f))
    (hpay₁ : (src.view.loc (c : Thread nD τ) ↦[src.view.set]{q} fs)
      ⊢ (proto X).payload ((c : Thread nD τ), SemLoc.dma (dsem k₁ j₁)) 0 c)
    (hpay₂ : ∀ fd, (dst.view.loc (n : Thread nD τ) ↦[dst.view.set]{fullShare}
        dst.view.write (Elt F) fd (src.view.read (Elt F) fs) Finset.univ)
      ⊢ (proto X).payload ((n : Thread nD τ), SemLoc.dma (dsem k₂ j₂)) 0 c)
    (rest : List (Dev nD × Cell)) :
    iprop(Know X K ∗ Owes c ((n, some (k₂, j₂)) :: rest) ∗ (src.view.loc (c : Thread nD τ) ↦[src.view.set]{q} fs)
        ∗ (∃ f, P f) ∗ tokOf (c, some (k₁, j₁)) c ∗ tokOf (n, some (k₂, j₂)) c)
      ⊢ Runs (F := F) c
          (Prog.lift (.enqueueDma src (.remote (Dev.tc n' : Thread nD τ) dst (.dma ss) hsc) (.dma rs) hsrc hdst hsem))
          fun _ => iprop(Owes c rest ∗ credOf (F := F) c (some (k₁, j₁)) unitN) := by
  subst hn ess ers
  unfold Owes
  simp only [Prog.lift]
  iintro ⟨#HI, ⟨%W, HO⟩, Hsrc, ⟨%fd, Hdst⟩, Hts, Htr⟩
  ihave HC1 := (know_cell X K (c, some (k₁, j₁))) $$ HI
  icases HC1 with ⟨#Hinv1, #Hr1⟩
  ihave HC2 := (know_cell X K (n', some (k₂, j₂))) $$ HI
  icases HC2 with ⟨#Hinv2, #Hr2⟩
  iapply (Rounds.wp_send_pointsTo 𝒱₀ ER (proto X) (c : Thread nD τ) none
      (κ₁ := K (c, some (k₁, j₁))) (κ₂ := K (n', some (k₂, j₂)))
      (r₁ := 0) (r₂ := 0) (d₁ := c) (d₂ := c) (fd := fd)
      hd₁ hd₂ () () unitN hN (amount_cell X c (some (k₁, j₁)) 0 c) (amount_cell X n' (some (k₂, j₂)) 0 c)
      (owedL rest) rfl (W := W) hpay₁ (hpay₂ fd)) $$ [HO Hsrc Hdst Hts Htr]
  · isplitr; · iexact Hinv1
    isplitr; · iexact Hinv2
    isplitl [Hsrc]; · iexact Hsrc
    isplitl [Hdst]; · iapply (hP fd); iexact Hdst
    isplitl [HO]; · iexact HO
    isplitl [Hts]; · iexact Hts
    isplitr; · iexact Hr1
    isplitl [Htr]; · iexact Htr
    iexact Hr2
  iintro ⟨Hc, HO⟩
  rw [wp_ret]; imodintro
  isplitl [HO]
  · iexists W; iexact HO
  iexact Hc

theorem scatter_step (c : Dev nD) (h : Fin 2) (o : Fin 15) (harg2 harg3) (rest : List (Dev nD × Cell)) :
    iprop(Know X K ∗ Owes c (scatterDue c (h, o) :: rest) ∗ scatterPre X c (h, o))
      ⊢ Runs c (scatterOne stageM recvM cc0_scratch3 cc0_scratch4 harg2 harg3 c h o)
          fun _ => iprop(Owes c rest ∗ credOf (F := F) c (some (0, slot (peer 0 o) h)) unitN) := by
  unfold scatterPre
  rw [stagePts_view c (off3_eq c o h) (k0_off3_inb c o h)]
  have h1 := scatter_pay_src X c c h o (off3_eq c o h) (k0_off3_inb c o h)
  have h2 := fun fd => scatter_pay_dst X c c (peer c o) h o (off3_eq c o h) (off2_eq c h) (k0_off3_inb c o h) (k0_off2_inb c h) fd
  have h3 := fun f => Entails.of_eq (recvPts_view (F := F) (peer c o) (off2_eq c h) (k0_off2_inb c h) f)
  have h4 := semAt3_eq _ _ (sendOff_eq h o) (sendOff_inb h o)
  have h5 := semAt4_eq _ _ (off1_eq c h) (k0_off1_inb c h)
  have h6 := scatterDev_eq c h o
  exact send_copy X K c (peer c o) (scatterDev c h o) h6
    (src := slotAt stageM (k0_off3 c (BitVec.ofNat 32 (1 + o.val)) (BitVec.ofNat 32 h.val)) (k0_off3_inb c o h))
    (dst := slotAt recvM (k0_off2 c (BitVec.ofNat 32 h.val)) (k0_off2_inb c h)) h4 h5
    (mem_send X c not_arrival_zero o h) (mem_arrival X c (.inl rfl) o h) (recv_credit _ _) (stageC X c)
    (fun f => recvPts (F := F) (peer c o) (slot c h) f) h3 h1 h2 rest

/-! ## The gathering's copies -/

/-- What a copy of the gathering needs: the share of the slot it reads, the slot it fills, and the rights to pay both
    cells. -/
def gatherPre (c : Dev nD) (p : Fin 2 × Fin 15) : sProp 𝕄 :=
  iprop(gathPts c (slot c p.1) (lent p.2) (gathC X) ∗ (∃ f, gathPts (F := F) (peer c p.2) (slot c p.1) fullShare f)
    ∗ tokOf (c, some (2, slot (peer 0 p.2) p.1)) c ∗ tokOf (peer c p.2, some (3, slot c p.1)) c)

theorem gather_step (c : Dev nD) (h : Fin 2) (o : Fin 15) (harg4) (rest : List (Dev nD × Cell)) :
    iprop(Know X K ∗ Owes c (gatherDue c (h, o) :: rest) ∗ gatherPre X c (h, o))
      ⊢ Runs c (gatherOne gathM cc0_scratch5 cc0_scratch6 harg4 c h o)
          fun _ => iprop(Owes c rest ∗ credOf (F := F) c (some (2, slot (peer 0 o) h)) unitN) := by
  unfold gatherPre
  rw [gathPts_view c (off2_eq c h) (k0_off2_inb c h)]
  have h1 := gather_pay_src X c c h o (off2_eq c h) (k0_off2_inb c h)
  have h2 := fun fd => gather_pay_dst X c c (peer c o) h (off2_eq c h) (k0_off2_inb c h) fd
  have h3 := fun f => Entails.of_eq (gathPts_view (F := F) (peer c o) (off2_eq c h) (k0_off2_inb c h) fullShare f)
  have h4 := semAt5_eq _ _ (sendOff_eq h o) (sendOff_inb h o)
  have h5 := semAt6_eq _ _ (off1_eq c h) (k0_off1_inb c h)
  have h6 := gatherDev_eq c h o
  exact send_copy X K c (peer c o) (gatherDev c h o) h6
    (src := slotAt gathM (k0_off2 c (BitVec.ofNat 32 h.val)) (k0_off2_inb c h))
    (dst := slotAt gathM (k0_off2 c (BitVec.ofNat 32 h.val)) (k0_off2_inb c h)) h4 h5
    (mem_send X c not_arrival_two o h) (mem_arrival X c (.inr rfl) o h) (gath_credit _ _) (gathC X)
    (fun f => gathPts (F := F) (peer c o) (slot c h) fullShare f) h3 h1 h2 rest

end Cert.KernelIdeal.Looped

end
-- ==== Proof.Halves.lean ====
/-
The kernel's loads and stores, and the rounds built from them: a term of the sum, a half of the chunk, a gathered block, and
the waits for copies that have left.
-/
module

public import proofs.«01_k».proof.Proof.Steps

@[expose] public section

noncomputable section

namespace Cert.KernelIdeal.Looped

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Cert.KernelIdeal.Gen

variable {F : FTy → Type} [FloatOps F]

local notation "𝕄" => MT nD τ sig Unit (Elt F) ℕ UU ℕ

variable (X : Dev nD → Vec F S1024x512 .bf16) (K : Dev nD × Cell → ℕ)

/-- A list of pairs of resources is a pair of lists. -/
theorem bigSepL_pair {ι : Type} (l : List ι) (Φ Ψ : ι → sProp 𝕄) :
    bigSepL l (fun i => iprop(Φ i ∗ Ψ i)) = iprop(bigSepL l Φ ∗ bigSepL l Ψ) := by
  have h1 : bigSepL l (fun i => iprop(Φ i ∗ Ψ i)) ⊢ iprop(bigSepL l Φ ∗ bigSepL l Ψ) := by
    induction l with
    | nil => simp only [bigSepL_nil]; exact BI.emp_sep.2
    | cons i l ih =>
      rw [bigSepL_cons', bigSepL_cons', bigSepL_cons']
      iintro ⟨⟨H1, H2⟩, Hl⟩
      ihave Hl := ih $$ Hl
      icases Hl with ⟨Ha, Hb⟩
      isplitl [H1 Ha]
      · isplitl [H1] <;> iassumption
      · isplitl [H2] <;> iassumption
  have h2 : iprop(bigSepL l Φ ∗ bigSepL l Ψ) ⊢ bigSepL l (fun i => iprop(Φ i ∗ Ψ i)) := by
    clear h1
    induction l with
    | nil => simp only [bigSepL_nil]; exact BI.emp_sep.1
    | cons i l ih =>
      rw [bigSepL_cons', bigSepL_cons', bigSepL_cons']
      iintro ⟨⟨H1, Ha⟩, H2, Hb⟩
      isplitl [H1 H2]
      · isplitl [H1] <;> iassumption
      · iapply ih
        isplitl [Ha] <;> iassumption
  exact equiv_iff.mp ⟨h1, h2⟩

/-! ## Loads and stores of slots and row blocks -/

section Access

variable (c : Dev nD) {off : Fin 3 → ℕ} {rows : Fin 2 → ℕ} {j : Fin 32}

theorem stage_read (e : off = ![j.val, 0, 0]) (h) {hl} (f : Slots F) :
    stagePts c j f ⊢ Runs c (Prog.lift (.load stageM (Rect.unit (s := S32x32x512) off S1x32x512.size h).toLoadRect hl))
      fun v => iprop(⌜v = slotOf f j⌝ ∗ stagePts c j f) := by
  unfold stagePts
  simp only [Prog.lift]
  iintro H
  iapply (wp_load 𝒱₀ (c : Thread nD τ) none Set.univ (m := stageM) (stage_foot e h)) $$ H
  iintro H
  rw [wp_ret]; imodintro
  isplitr
  · ipureintro; exact stage_load e h f
  iexact H

theorem recv_read (e : off = ![j.val, 0, 0]) (h) {hl} (f : Slots F) :
    recvPts c j f ⊢ Runs c (Prog.lift (.load recvM (Rect.unit (s := S32x32x512) off S1x32x512.size h).toLoadRect hl))
      fun v => iprop(⌜v = slotOf f j⌝ ∗ recvPts c j f) := by
  unfold recvPts
  simp only [Prog.lift]
  iintro H
  iapply (wp_load 𝒱₀ (c : Thread nD τ) none Set.univ (m := recvM) (recv_foot e h)) $$ H
  iintro H
  rw [wp_ret]; imodintro
  isplitr
  · ipureintro; exact recv_load e h f
  iexact H

theorem gath_read (e : off = ![j.val, 0, 0]) (h) {hl} (q : PosShare TreeShare) (f : Slots F) :
    gathPts c j q f ⊢ Runs c (Prog.lift (.load gathM (Rect.unit (s := S32x32x512) off S1x32x512.size h).toLoadRect hl))
      fun v => iprop(⌜v = slotOf f j⌝ ∗ gathPts c j q f) := by
  unfold gathPts
  simp only [Prog.lift]
  iintro H
  iapply (wp_load 𝒱₀ (c : Thread nD τ) none Set.univ (m := gathM) (gath_foot e h)) $$ H
  iintro H
  rw [wp_ret]; imodintro
  isplitr
  · ipureintro; exact gath_load e h f
  iexact H

theorem out_read (e : rows = ![32 * j.val, 0]) (h) {hl} (f : Rows F) :
    outPts c j f ⊢ Runs c (Prog.lift (.load outM (Rect.unit (s := S1024x512) rows S32x512.size h).toLoadRect hl))
      fun _ => outPts c j f := by
  unfold outPts
  simp only [Prog.lift]
  iintro H
  iapply (wp_load 𝒱₀ (c : Thread nD τ) none Set.univ (m := outM) (out_foot e h)) $$ H
  iintro H
  rw [wp_ret]; imodintro
  iexact H

theorem gath_write (e : off = ![j.val, 0, 0]) (h) {hx hm} (f g : Slots F) (w : Vec F S1x32x512 .bf16) (hg : slotOf g j = w) :
    gathPts c j fullShare f
      ⊢ Runs c (Prog.lift (.store gathM (Rect.unit (s := S32x32x512) off S1x32x512.size h) w Finset.univ hx hm))
          fun _ => gathPts c j fullShare g := by
  have hc := gathPts_congr c j fullShare _ _ (gath_store e h f g w hg)
  unfold gathPts at hc ⊢
  simp only [Prog.lift]
  iintro H
  iapply (wp_store 𝒱₀ (c : Thread nD τ) none Set.univ (m := gathM)
    (r := Rect.unit (s := S32x32x512) off S1x32x512.size h) (Mk := Finset.univ) (gath_store_foot e h)) $$ H
  iintro H
  rw [wp_ret]; imodintro
  iapply (Entails.of_eq hc)
  iexact H

theorem out_write (e : rows = ![32 * j.val, 0]) (h) {hx hm} (f g : Rows F) (w : Vec F S32x512 .f32) (hg : rowsOf g j = w) :
    outPts c j f
      ⊢ Runs c (Prog.lift (.store outM (Rect.unit (s := S1024x512) rows S32x512.size h) w Finset.univ hx hm))
          fun _ => outPts c j g := by
  have hc := outPts_congr c j _ _ (out_store e h f g w hg)
  unfold outPts at hc ⊢
  simp only [Prog.lift]
  iintro H
  iapply (wp_store 𝒱₀ (c : Thread nD τ) none Set.univ (m := outM)
    (r := Rect.unit (s := S1024x512) rows S32x512.size h) (Mk := Finset.univ) (out_store_foot e h)) $$ H
  iintro H
  rw [wp_ret]; imodintro
  iapply (Entails.of_eq hc)
  iexact H

end Access

/-! ## A term of the sum -/

/-- Before a term: the other device's copy may be waited for. -/
def termPre (c : Dev nD) (h : Fin 2) (o : Fin 15) : sProp 𝕄 :=
  iprop(credOf (F := F) c (some (1, slot (peer c o) h)) unitN ∗ posOf c (some (1, slot (peer c o) h)) 0)

/-- After it: the other device's rows. -/
def termPost (c : Dev nD) (h : Fin 2) (o : Fin 15) : sProp 𝕄 :=
  iprop(posOf c (some (1, slot (peer c o) h)) 1 ∗ recvPts c (slot (peer c o) h) (recvC X c))

theorem copyPay_recv (c : Dev nD) (j : Fin 32) : copyPay X c 1 j = recvPts c j (recvC X c) := rfl
theorem copyPay_gath (c : Dev nD) (j : Fin 32) : copyPay X c 3 j = gathPts c j fullShare (gathC X) := rfl

theorem reduce_step (c : Dev nD) (h : Fin 2) (o : Fin 15) (harg2 harg3) (l : List (Dev nD × Cell))
    (hl : ∀ y ∈ l, 2 < cellLevel y.2) (acc : FVec F S32x512 .f32) :
    iprop(Know X K ∗ Owes c l ∗ termPre (F := F) c h o)
      ⊢ Runs c (reduceOne stageM recvM cc0_scratch4 harg2 harg3 c h acc o)
          fun r => iprop(⌜r = plus acc (slotOf (recvC X c) (slot (peer c o) h))⌝ ∗ Owes c l ∗ termPost X c h o) := by
  have hw := fun hsrc hdst => wait_copy X K c 1 (slot (peer c o) h) (peer c o)
    (duties_arrival X c (.inl rfl) (peer c o) h (peer_ne c o)) l hl
    (semAt4_eq _ _ (off5_eq c o h) (k0_off5_inb c o h)) (slotAt stageM ![0, 0, 0] inb_S32x32x512_S1x32x512_0_0_0)
    (slotAt recvM (k0_off3 c (BitVec.ofNat 32 (1 + o.val)) (BitVec.ofNat 32 h.val)) (k0_off3_inb c o h))
    (recv_credit _ _) hsrc hdst
  unfold reduceOne termPre termPost
  iintro ⟨#HI, HO, Hc, Hat⟩
  iapply runs_bind
  isplitl [HO Hc Hat]
  · iapply (hw _ _)
    isplitr; · iexact HI
    isplitl [HO]; · iexact HO
    isplitl [Hc] <;> iassumption
  iintro %_ ⟨HO, Hat, Hp⟩
  ihave Hp := (Entails.of_eq (copyPay_recv X c _)) $$ Hp
  iapply runs_bind
  isplitl [Hp]
  · iapply (recv_read c (off6_eq c o h) (k0_off6_inb c o h) (recvC X c))
    iexact Hp
  iintro %v ⟨%hv, Hp⟩
  subst hv
  unfold Runs
  rw [Prog.pure_eq_ret, wp_ret]; imodintro
  isplitr; · ipureintro; rfl
  isplitl [HO]; · iexact HO
  isplitl [Hat] <;> iassumption

/-! ## A gathered block -/

/-- Before a gathered block: its copy may be waited for, and its rows of the result are held. -/
def collectPre (c : Dev nD) (p : Fin 2 × Fin 15) : sProp 𝕄 :=
  iprop((credOf (F := F) c (some (3, slot (peer c p.2) p.1)) unitN ∗ posOf c (some (3, slot (peer c p.2) p.1)) 0)
    ∗ ∃ f, outPts (F := F) c (slot (peer c p.2) p.1) f)

/-- After it: the slot, and the rows written. -/
def collectPost (c : Dev nD) (p : Fin 2 × Fin 15) : sProp 𝕄 :=
  iprop(posOf c (some (3, slot (peer c p.2) p.1)) 1 ∗ gathPts c (slot (peer c p.2) p.1) fullShare (gathC X)
    ∗ outPts c (slot (peer c p.2) p.1) (outC X c))

theorem collect_step (c : Dev nD) (h : Fin 2) (o : Fin 15) (harg4) :
    iprop(Know X K ∗ Owes c [] ∗ collectPre (F := F) c (h, o))
      ⊢ Runs c (collectOne outM gathM cc0_scratch6 harg4 c h o) fun _ => iprop(Owes c [] ∗ collectPost X c (h, o)) := by
  have hw := fun hsrc hdst => wait_copy X K c 3 (slot (peer c o) h) (peer c o)
    (duties_arrival X c (.inr rfl) (peer c o) h (peer_ne c o)) [] (fun y hy => absurd hy (List.not_mem_nil))
    (semAt6_eq _ _ (off5_eq c o h) (k0_off5_inb c o h)) (slotAt gathM ![0, 0, 0] inb_S32x32x512_S1x32x512_0_0_0)
    (slotAt gathM (k0_off3 c (BitVec.ofNat 32 (1 + o.val)) (BitVec.ofNat 32 h.val)) (k0_off3_inb c o h))
    (gath_credit _ _) hsrc hdst
  unfold collectOne collectPre collectPost
  iintro ⟨#HI, HO, ⟨Hc, Hat⟩, ⟨%f, Hout⟩⟩
  iapply runs_bind
  isplitl [HO Hc Hat]
  · iapply (hw _ _)
    isplitr; · iexact HI
    isplitl [HO]; · iexact HO
    isplitl [Hc] <;> iassumption
  iintro %_ ⟨HO, Hat, Hp⟩
  ihave Hp := (Entails.of_eq (copyPay_gath X c _)) $$ Hp
  iapply runs_bind
  isplitl [Hp]
  · iapply (gath_read c (off6_eq c o h) (k0_off6_inb c o h) fullShare (gathC X))
    iexact Hp
  iintro %v ⟨%hv, Hp⟩
  subst hv
  iapply runs_bind
  isplitl [Hout]
  · iapply (out_read c (off8_eq c o h) (k0_off8_inb c o h) f)
    iexact Hout
  iintro %_ Hout
  iapply runs_wand
  isplitl [Hout]
  · iapply (out_write c (off8_eq c o h) (k0_off8_inb c o h) f (outC X c) _ (outC_other X c (peer c o) h (peer_ne c o)))
    iexact Hout
  iintro %_ Hout
  isplitl [HO]; · iexact HO
  isplitl [Hat]; · iexact Hat
  isplitl [Hp] <;> iassumption

/-! ## Copies that have left -/

/-- Before the wait for a copy's departure, and after it: what the copy read is back. -/
def leftPre (k : Fin 4) (c : Dev nD) (p : Fin 2 × Fin 15) : sProp 𝕄 :=
  iprop(credOf (F := F) c (some (k, slot (peer 0 p.2) p.1)) unitN ∗ posOf c (some (k, slot (peer 0 p.2) p.1)) 0)
def leftPost (k : Fin 4) (c : Dev nD) (p : Fin 2 × Fin 15) : sProp 𝕄 :=
  iprop(posOf c (some (k, slot (peer 0 p.2) p.1)) 1 ∗ copyPay X c k (slot (peer 0 p.2) p.1))

theorem scatterDone_step (c : Dev nD) (h : Fin 2) (o : Fin 15) (harg2 harg3) :
    iprop(Know X K ∗ Owes c [] ∗ leftPre (F := F) 0 c (h, o))
      ⊢ Runs c (scatterDone stageM recvM cc0_scratch3 harg2 harg3 c h o) fun _ => iprop(Owes c [] ∗ leftPost X 0 c (h, o)) :=
  wait_copy X K c 0 (slot (peer 0 o) h) c (duties_send X c not_arrival_zero o h) []
    (fun y hy => absurd hy (List.not_mem_nil)) (semAt3_eq _ _ (sendOff_eq h o) (sendOff_inb h o))
    (slotAt recvM (k0_off2 c (BitVec.ofNat 32 h.val)) (k0_off2_inb c h))
    (slotAt stageM (k0_off3 c (BitVec.ofNat 32 (1 + o.val)) (BitVec.ofNat 32 h.val)) (k0_off3_inb c o h))
    (stage_credit _ _) _ _

theorem gatherDone_step (c : Dev nD) (h : Fin 2) (o : Fin 15) (harg4) :
    iprop(Know X K ∗ Owes c [] ∗ leftPre (F := F) 2 c (h, o))
      ⊢ Runs c (gatherDone gathM cc0_scratch5 harg4 c h o) fun _ => iprop(Owes c [] ∗ leftPost X 2 c (h, o)) :=
  wait_copy X K c 2 (slot (peer 0 o) h) c (duties_send X c not_arrival_two o h) []
    (fun y hy => absurd hy (List.not_mem_nil)) (semAt5_eq _ _ (sendOff_eq h o) (sendOff_inb h o))
    (slotAt gathM (k0_off2 c (BitVec.ofNat 32 h.val)) (k0_off2_inb c h))
    (slotAt gathM (k0_off2 c (BitVec.ofNat 32 h.val)) (k0_off2_inb c h))
    (gath_credit _ _) _ _

/-! ## A half of the chunk -/

/-- What a copy of the gathering needs, but for the share of the slot it reads. -/
def sendPre (c : Dev nD) (h : Fin 2) (o : Fin 15) : sProp 𝕄 :=
  iprop((∃ f, gathPts (F := F) (peer c o) (slot c h) fullShare f)
    ∗ tokOf (c, some (2, slot (peer 0 o) h)) c ∗ tokOf (peer c o, some (3, slot c h)) c)

/-- A slot of the gather buffer, dealt into the shares the copies read and the share that stays. -/
theorem gath_deal (c : Dev nD) (j : Fin 32) (f : Slots F) :
    gathPts c j fullShare f ⊢ iprop(gathPts c j kept f ∗ bigSepL others fun o => gathPts c j (lent o) f) := by
  rw [← bigSep_univ_eq_bigSepL others others_univ others_nodup' fun o => gathPts c j (lent o) f]
  exact Transfers.pointsTo_toks_split fullShare 15

/-- The shares put together again. -/
theorem gath_undeal (c : Dev nD) (j : Fin 32) (f : Slots F) :
    iprop(gathPts c j kept f ∗ bigSepL others fun o => gathPts c j (lent o) f) ⊢ gathPts c j fullShare f := by
  rw [← bigSep_univ_eq_bigSepL others others_univ others_nodup' fun o => gathPts c j (lent o) f]
  exact Transfers.pointsTo_toks_join fullShare 15

/-- Before a half: its slots and rows, the copies it sums and what its own copies need. -/
def halfPre (c : Dev nD) (h : Fin 2) : sProp 𝕄 :=
  iprop(stagePts c (slot c h) (stageC X c) ∗ (∃ f, gathPts (F := F) c (slot c h) fullShare f)
    ∗ (∃ f, outPts (F := F) c (slot c h) f) ∗ bigSepL others (termPre (F := F) c h) ∗ bigSepL others (sendPre (F := F) c h))

/-- After it: the slots, the rows written, what the sum received, and the copies to wait for. -/
def halfPost (c : Dev nD) (h : Fin 2) : sProp 𝕄 :=
  iprop(stagePts c (slot c h) (stageC X c) ∗ gathPts c (slot c h) kept (gathC X) ∗ outPts c (slot c h) (outC X c)
    ∗ bigSepL others (termPost X c h) ∗ bigSepL others fun o => credOf (F := F) c (some (2, slot (peer 0 o) h)) unitN)

/-- The copies of the gathering for the listed halves. -/
def gatherDues (c : Dev nD) (hs : List (Fin 2)) : List (Dev nD × Cell) :=
  (hs.flatMap fun h => others.map (Prod.mk h)).map (gatherDue c)

theorem gatherDues_level (c : Dev nD) (hs : List (Fin 2)) : ∀ y ∈ gatherDues c hs, 2 < cellLevel y.2 := by
  intro y hy
  obtain ⟨p, -, rfl⟩ := List.mem_map.mp hy
  show 2 < 3
  decide

theorem gatherDues_cons (c : Dev nD) (h : Fin 2) (hs : List (Fin 2)) :
    gatherDues c (h :: hs) = others.map (fun o => gatherDue c (h, o)) ++ gatherDues c hs := by
  unfold gatherDues
  rw [List.flatMap_cons, List.map_append, List.map_map]; rfl

theorem half_step (c : Dev nD) (h : Fin 2) (hs : List (Fin 2)) (harg2 harg3 harg4) :
    iprop(Know X K ∗ Owes c (gatherDues c (h :: hs)) ∗ halfPre X c h)
      ⊢ Runs c (half outM stageM recvM gathM cc0_scratch4 cc0_scratch5 cc0_scratch6 harg2 harg3 harg4 c h)
          fun _ => iprop(Owes c (gatherDues c hs) ∗ halfPost X c h) := by
  have hsum := fun b => runs_eachWith (c := c) (Know X K) (reduceOne stageM recvM cc0_scratch4 harg2 harg3 c h)
    (fun acc o => plus acc (slotOf (recvC X c) (slot (peer c o) h))) (fun _ => Owes c (gatherDues c (h :: hs)))
    (termPre (F := F) c h) (termPost X c h)
    (fun b o _ => reduce_step X K c h o harg2 harg3 _ (gatherDues_level c (h :: hs)) b) others b
  have hsend := runs_each (c := c) (Know X K) (gatherOne gathM cc0_scratch5 cc0_scratch6 harg4 c h)
    (fun os => Owes c (os.map (fun o => gatherDue c (h, o)) ++ gatherDues c hs))
    (fun o => gatherPre X c (h, o)) (fun o => credOf (F := F) c (some (2, slot (peer 0 o) h)) unitN)
    (fun o os => gather_step X K c h o harg4 (os.map (fun o => gatherDue c (h, o)) ++ gatherDues c hs)) others
  unfold half halfPre halfPost
  iintro ⟨#HI, HO, Hst, ⟨%fg, Hg⟩, ⟨%fo, Hout⟩, Hterm, Hsend⟩
  iapply runs_bind
  isplitl [Hst]
  · iapply (stage_read c (off4_eq c h) (k0_off4_inb c h) (stageC X c))
    iexact Hst
  iintro %v ⟨%hv, Hst⟩
  subst hv
  iapply runs_bind
  isplitl [HO Hterm]
  · iapply (hsum _)
    isplitr; · iexact HI
    isplitl [HO] <;> iassumption
  iintro %acc ⟨%hacc, HO, Hterm⟩
  have hacc' : acc = sumOf X c h := hacc
  clear hacc
  subst hacc'
  iapply runs_bind
  isplitl [Hg]
  · iapply (gath_read c (off4_eq c h) (k0_off4_inb c h) fullShare fg)
    iexact Hg
  iintro %_ ⟨-, Hg⟩
  iapply runs_bind
  isplitl [Hg]
  · iapply (gath_write c (off4_eq c h) (k0_off4_inb c h) fg (gathC X) _ (gathC_slot X c h))
    iexact Hg
  iintro %_ Hg
  ihave Hg := (gath_deal c (slot c h) (gathC X)) $$ Hg
  icases Hg with ⟨Hg, Hls⟩
  ihave HO := (Entails.of_eq (congrArg (Owes (F := F) c) (gatherDues_cons c h hs))) $$ HO
  iapply runs_bind
  isplitl [HO Hls Hsend]
  · iapply hsend
    isplitr; · iexact HI
    isplitl [HO]; · iexact HO
    iapply (Entails.of_eq (bigSepL_pair others (fun o => gathPts c (slot c h) (lent o) (gathC X)) (sendPre (F := F) c h)).symm)
    isplitl [Hls] <;> iassumption
  iintro %_ ⟨HO, Hcred⟩
  iapply runs_bind
  isplitl [Hout]
  · iapply (out_read c (off7_eq c h) (k0_off7_inb c h) fo)
    iexact Hout
  iintro %_ Hout
  iapply runs_wand
  isplitl [Hout]
  · iapply (out_write c (off7_eq c h) (k0_off7_inb c h) fo (outC X c) _ (outC_own X c h))
    iexact Hout
  iintro %_ Hout
  isplitl [HO]; · iexact HO
  isplitl [Hst]; · iexact Hst
  isplitl [Hg]; · iexact Hg
  isplitl [Hout]; · iexact Hout
  isplitl [Hterm] <;> iassumption

/-! ## The staging buffer -/

theorem zeros₂ : (![0, 0] : Fin 2 → ℕ) = fun _ => 0 := funext fun a => by fin_cases a <;> rfl
theorem zeros₃ : (![0, 0, 0] : Fin 3 → ℕ) = fun _ => 0 := funext fun a => by fin_cases a <;> rfl

theorem fill_step (c : Dev nD) (harg2) :
    iprop((((c : Thread nD τ).loc cc0_stg0_0) ↦{fullShare} X c) ∗ ∃ f : Slots F, ((c : Thread nD τ).loc cc0_scratch0) ↦{fullShare} f)
      ⊢ Runs c (fill (F := F) (Memref.whole cc0_stg0_0) stageM harg2)
          fun _ => iprop((((c : Thread nD τ).loc cc0_stg0_0) ↦{fullShare} X c)
            ∗ (((c : Thread nD τ).loc cc0_scratch0) ↦{fullShare} stageC X c)) := by
  have hx : (Memref.whole cc0_stg0_0).view.readAt (Elt F)
      (Rect.unit (s := S1024x512) ![0, 0] S1024x512.size inb_S1024x512_S1024x512_0_0).toLoadRect (X c) = X c :=
    Memref.readAt_unit_zero (Elt F) cc0_stg0_0 zeros₂ _ (X c)
  unfold fill
  simp only [Prog.lift, Prog.bind_op, Prog.bind_ret]
  iintro ⟨Hx, ⟨%f, Hst⟩⟩
  iapply (wp_load 𝒱₀ (c : Thread nD τ) none Set.univ (m := (Memref.whole cc0_stg0_0)) (Finset.subset_univ _)) $$ Hx
  iintro Hx
  rw [hx]
  iapply (wp_load 𝒱₀ (c : Thread nD τ) none Set.univ (m := stageM) (Finset.subset_univ _)) $$ Hst
  iintro Hst
  iapply (wp_store 𝒱₀ (c : Thread nD τ) none Set.univ (m := stageM)
    (r := Rect.unit (s := S32x32x512) ![0, 0, 0] S32x32x512.size inb_S32x32x512_S32x32x512_0_0_0) (Mk := Finset.univ)
    (Finset.subset_univ _)) $$ Hst
  iintro Hst
  rw [wp_ret]; imodintro
  isplitl [Hx]; · iexact Hx
  ihave Hst := (Entails.of_eq (congrArg (fun g => (((c : Thread nD τ).loc cc0_scratch0) ↦{fullShare} g : sProp 𝕄))
    (Memref.write_access_unit_zero_univ (Elt F) cc0_scratch0 zeros₃ inb_S32x32x512_S32x32x512_0_0_0 f (k0_pay1 (X c))))) $$ Hst
  iexact Hst

end Cert.KernelIdeal.Looped

end
-- ==== Proof.Split.lean ====
/-
Families over slots and cells, split the way the kernel's loops run: the slots of the other devices pair by pair, then the
device's own two. Buffers held whole, and slot by slot.
-/
module

public import proofs.«01_k».proof.Proof.Halves
public import Idealize.ShloMosaic.Lib.Ring

@[expose] public section

noncomputable section

namespace Cert.KernelIdeal.Looped

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Cert.KernelIdeal.Gen

variable {F : FTy → Type} [FloatOps F]

local notation "𝕄" => MT nD τ sig Unit (Elt F) ℕ UU ℕ

/-! ## Families -/

/-- A family over the slots: those of the other devices of `d`, and `d`'s own. -/
theorem split_slots (d : Dev nD) (Φ : Fin 32 → sProp 𝕄) :
    bigSep Finset.univ Φ
      = iprop((bigSepL pairs fun p => Φ (slot (peer d p.2) p.1)) ∗ bigSepL halves fun h => Φ (slot d h)) := by
  rw [bigSep_univ_eq_bigSepL (slotList d) (slotList_univ d) (slotList_nodup d), bigSepL_append, bigSepL_map, bigSepL_map]

/-- The pairs, half by half. -/
theorem pairs_byHalf (Φ : Fin 2 × Fin 15 → sProp 𝕄) :
    bigSepL pairs Φ = bigSepL halves fun h => bigSepL others fun o => Φ (h, o) := by
  show bigSepL (others.map (Prod.mk 0) ++ (others.map (Prod.mk 1) ++ [])) Φ = _
  rw [List.append_nil, bigSepL_append, bigSepL_map, bigSepL_map, bigSepL_cons' (0 : Fin 2) [1],
    bigSepL_singleton]

/-- The pairs, device by device. -/
theorem pairs_byOther (Φ : Fin 2 × Fin 15 → sProp 𝕄) :
    bigSepL pairs Φ = bigSepL others fun o => bigSep Finset.univ fun h : Fin 2 => Φ (h, o) := by
  rw [← bigSep_univ_eq_bigSepL pairs pairs_univ pairs_nodup, bigSep_univ_prod, Pipeline.bigSep_univ_comm,
    bigSep_univ_eq_bigSepL others others_univ others_nodup']

theorem kinds_univ : (Finset.univ : Finset (Fin 4)) = ([0, 1, 2, 3] : List (Fin 4)).toFinset := by decide
theorem kinds_nodup : ([0, 1, 2, 3] : List (Fin 4)).Nodup := by decide

/-- A family over a device's cells: the barrier's, and each kind of the copies'. -/
theorem split_cells (Φ : Cell → sProp 𝕄) :
    bigSep Finset.univ Φ
      = iprop(Φ none ∗ (bigSep Finset.univ fun j => Φ (some (0, j))) ∗ (bigSep Finset.univ fun j => Φ (some (1, j)))
        ∗ (bigSep Finset.univ fun j => Φ (some (2, j))) ∗ bigSep Finset.univ fun j => Φ (some (3, j))) := by
  rw [bigSep_univ_split none,
    show (Finset.univ.erase none : Finset Cell) = Finset.univ.map Function.Embedding.some from by
      ext x; cases x <;> simp, bigSep_map]
  show BI.sep (Φ none) (bigSep Finset.univ fun x : Fin 4 × Fin 32 => Φ (some x)) = _
  rw [bigSep_univ_prod, bigSep_univ_eq_bigSepL [0, 1, 2, 3] kinds_univ kinds_nodup, bigSepL_cons', bigSepL_cons',
    bigSepL_cons', bigSepL_singleton]
  rfl

/-! ## Buffers -/

theorem stage_disjoint (c : Dev nD) (j j' : Fin 32) (h : j ≠ j') :
    Disjoint (α := Finset (Idx ((c : Thread nD τ).loc cc0_scratch0))) (slotSet j) (slotSet j') := slotSet_disjoint j j' h
theorem stage_cover (c : Dev nD) :
    Finset.univ.biUnion (fun j : Fin 32 => (slotSet j : Finset (Idx ((c : Thread nD τ).loc cc0_scratch0)))) = Finset.univ :=
  Finset.eq_univ_iff_forall.mpr fun i => Finset.mem_biUnion.mpr ⟨i 0, Finset.mem_univ _, mem_slotSet.mpr rfl⟩

/-- The staging buffer held whole is held piece by piece. -/
theorem stage_slots (c : Dev nD) (f : Slots F) :
    (((c : Thread nD τ).loc cc0_scratch0) ↦{fullShare} f : sProp 𝕄) = bigSep Finset.univ fun j => stagePts c j f := by
  have h := Ring.pointsTo_blocks (ℓ := (c : Thread nD τ).loc cc0_scratch0) (q := fullShare) (Val := Elt F) (Ix := Unit) (Name := ℕ)
    (U := UU) (Lvl := ℕ) (fun j : Fin 32 => slotSet j) (stage_disjoint c) (stage_cover c) f
  exact h

theorem recv_disjoint (c : Dev nD) (j j' : Fin 32) (h : j ≠ j') :
    Disjoint (α := Finset (Idx ((c : Thread nD τ).loc cc0_scratch1))) (slotSet j) (slotSet j') := slotSet_disjoint j j' h
theorem recv_cover (c : Dev nD) :
    Finset.univ.biUnion (fun j : Fin 32 => (slotSet j : Finset (Idx ((c : Thread nD τ).loc cc0_scratch1)))) = Finset.univ :=
  Finset.eq_univ_iff_forall.mpr fun i => Finset.mem_biUnion.mpr ⟨i 0, Finset.mem_univ _, mem_slotSet.mpr rfl⟩

/-- The receive buffer held whole is held piece by piece. -/
theorem recv_slots (c : Dev nD) (f : Slots F) :
    (((c : Thread nD τ).loc cc0_scratch1) ↦{fullShare} f : sProp 𝕄) = bigSep Finset.univ fun j => recvPts c j f := by
  have h := Ring.pointsTo_blocks (ℓ := (c : Thread nD τ).loc cc0_scratch1) (q := fullShare) (Val := Elt F) (Ix := Unit) (Name := ℕ)
    (U := UU) (Lvl := ℕ) (fun j : Fin 32 => slotSet j) (recv_disjoint c) (recv_cover c) f
  exact h

theorem gath_disjoint (c : Dev nD) (j j' : Fin 32) (h : j ≠ j') :
    Disjoint (α := Finset (Idx ((c : Thread nD τ).loc cc0_scratch2))) (slotSet j) (slotSet j') := slotSet_disjoint j j' h
theorem gath_cover (c : Dev nD) :
    Finset.univ.biUnion (fun j : Fin 32 => (slotSet j : Finset (Idx ((c : Thread nD τ).loc cc0_scratch2)))) = Finset.univ :=
  Finset.eq_univ_iff_forall.mpr fun i => Finset.mem_biUnion.mpr ⟨i 0, Finset.mem_univ _, mem_slotSet.mpr rfl⟩

/-- The gather buffer held whole is held piece by piece. -/
theorem gath_slots (c : Dev nD) (f : Slots F) :
    (((c : Thread nD τ).loc cc0_scratch2) ↦{fullShare} f : sProp 𝕄) = bigSep Finset.univ fun j => gathPts c j fullShare f := by
  have h := Ring.pointsTo_blocks (ℓ := (c : Thread nD τ).loc cc0_scratch2) (q := fullShare) (Val := Elt F) (Ix := Unit) (Name := ℕ)
    (U := UU) (Lvl := ℕ) (fun j : Fin 32 => slotSet j) (gath_disjoint c) (gath_cover c) f
  exact h

theorem out_disjoint (c : Dev nD) (j j' : Fin 32) (h : j ≠ j') :
    Disjoint (α := Finset (Idx ((c : Thread nD τ).loc cc0_stg1_0))) (rowSet j) (rowSet j') := rowSet_disjoint j j' h
theorem out_cover (c : Dev nD) :
    Finset.univ.biUnion (fun j : Fin 32 => (rowSet j : Finset (Idx ((c : Thread nD τ).loc cc0_stg1_0)))) = Finset.univ :=
  Finset.eq_univ_iff_forall.mpr fun i => Finset.mem_biUnion.mpr ⟨blockOf i, Finset.mem_univ _, mem_rowSet.mpr rfl⟩

/-- The result held whole is held piece by piece. -/
theorem out_blocks (c : Dev nD) (f : Rows F) :
    (((c : Thread nD τ).loc cc0_stg1_0) ↦{fullShare} f : sProp 𝕄) = bigSep Finset.univ fun j => outPts c j f := by
  have h := Ring.pointsTo_blocks (ℓ := (c : Thread nD τ).loc cc0_stg1_0) (q := fullShare) (Val := Elt F) (Ix := Unit) (Name := ℕ)
    (U := UU) (Lvl := ℕ) (fun j : Fin 32 => rowSet j) (out_disjoint c) (out_cover c) f
  exact h

/-- Contents held are some contents held. -/
theorem some_of {α : Type} {Φ : α → sProp 𝕄} (a : α) : Φ a ⊢ iprop(∃ a, Φ a) := by
  iintro H; iexists a; iexact H

theorem recv_some (c : Dev nD) :
    (iprop(∃ f : Slots F, ((c : Thread nD τ).loc cc0_scratch1) ↦{fullShare} f) : sProp 𝕄)
      ⊢ bigSep Finset.univ fun j => iprop(∃ f, recvPts c j f) := by
  iintro ⟨%f, H⟩
  ihave H := (Entails.of_eq (recv_slots c f)) $$ H
  have h : (bigSep Finset.univ fun j => recvPts (F := F) c j f) ⊢ bigSep Finset.univ fun j => iprop(∃ f, recvPts (F := F) c j f) :=
    bigSep_mono fun j _ => some_of f
  iapply h; iexact H

theorem gath_some (c : Dev nD) :
    (iprop(∃ f : Slots F, ((c : Thread nD τ).loc cc0_scratch2) ↦{fullShare} f) : sProp 𝕄)
      ⊢ bigSep Finset.univ fun j => iprop(∃ f, gathPts c j fullShare f) := by
  iintro ⟨%f, H⟩
  ihave H := (Entails.of_eq (gath_slots c f)) $$ H
  have h : (bigSep Finset.univ fun j => gathPts (F := F) c j fullShare f)
      ⊢ bigSep Finset.univ fun j => iprop(∃ f, gathPts (F := F) c j fullShare f) :=
    bigSep_mono fun j _ => some_of f
  iapply h; iexact H

theorem out_some (c : Dev nD) :
    (iprop(∃ f : Rows F, ((c : Thread nD τ).loc cc0_stg1_0) ↦{fullShare} f) : sProp 𝕄)
      ⊢ bigSep Finset.univ fun j => iprop(∃ f, outPts c j f) := by
  iintro ⟨%f, H⟩
  ihave H := (Entails.of_eq (out_blocks c f)) $$ H
  have h : (bigSep Finset.univ fun j => outPts (F := F) c j f) ⊢ bigSep Finset.univ fun j => iprop(∃ f, outPts (F := F) c j f) :=
    bigSep_mono fun j _ => some_of f
  iapply h; iexact H

/-- The slots of the receive buffer, whatever they hold, are the buffer, whatever it holds. -/
theorem recv_join (c : Dev nD) (f₀ : Slots F) :
    (bigSep Finset.univ fun j => iprop(∃ f, recvPts (F := F) c j f))
      ⊢ iprop(∃ f : Slots F, ((c : Thread nD τ).loc cc0_scratch1) ↦{fullShare} f) := by
  have h := Ring.pointsTo_blocks_join_exists (ℓ := (c : Thread nD τ).loc cc0_scratch1) (q := fullShare) (Val := Elt F)
    (Ix := Unit) (Name := ℕ) (U := UU) (Lvl := ℕ) (fun j : Fin 32 => slotSet j) (recv_disjoint c) (recv_cover c) f₀
  exact h

end Cert.KernelIdeal.Looped

end
-- ==== Proof.Body.lean ====
/-
The whole kernel on one device `c`: what it needs, what it leaves, and that it runs from one to the other.
-/
module

public import proofs.«01_k».proof.Proof.Split

@[expose] public section

noncomputable section

namespace Cert.KernelIdeal.Looped

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Cert.KernelIdeal.Gen

variable {F : FTy → Type} [FloatOps F]

local notation "𝕄" => MT nD τ sig Unit (Elt F) ℕ UU ℕ

variable (X : Dev nD → Vec F S1024x512 .bf16) (K : Dev nD × Cell → ℕ)

/-! ## What a device starts with -/

/-- A device's rights to pay: the barriers of the others, and both cells of each of its copies. -/
def tokens (c : Dev nD) : sProp 𝕄 :=
  iprop((bigSepL others fun o => tokOf (F := F) (peer c o, none) c)
    ∗ (bigSepL pairs fun p => tokOf (F := F) (c, some (0, slot (peer 0 p.2) p.1)) c)
    ∗ (bigSepL pairs fun p => tokOf (F := F) (peer c p.2, some (1, slot c p.1)) c)
    ∗ (bigSepL pairs fun p => tokOf (F := F) (c, some (2, slot (peer 0 p.2) p.1)) c)
    ∗ bigSepL pairs fun p => tokOf (F := F) (peer c p.2, some (3, slot c p.1)) c)

/-- What a device may wait for from the others: fifteen signals, and a copy into each slot of another device. -/
def credits (c : Dev nD) : sProp 𝕄 :=
  iprop(credOf (F := F) c none 15 ∗ (bigSepL pairs fun p => credOf (F := F) c (some (1, slot (peer c p.2) p.1)) unitN)
    ∗ bigSepL pairs fun p => credOf (F := F) c (some (3, slot (peer c p.2) p.1)) unitN)

/-- A device's scratch buffers, whatever they hold. -/
def scratch (c : Dev nD) : sProp 𝕄 :=
  iprop((∃ f : Slots F, ((c : Thread nD τ).loc cc0_scratch0) ↦{fullShare} f)
    ∗ (∃ f : Slots F, ((c : Thread nD τ).loc cc0_scratch1) ↦{fullShare} f)
    ∗ ∃ f : Slots F, ((c : Thread nD τ).loc cc0_scratch2) ↦{fullShare} f)

/-- A cell whose owner has taken all its rounds. -/
def over (c : Dev nD) (x : Cell) : sProp 𝕄 :=
  iprop(∃ R, ⌜∀ r, R ≤ r → (proto X).duties (kcell (c, x)) r = ∅⌝ ∗ posOf (F := F) c x R)

/-! ## The slots handed over at the barrier -/

theorem handover (c : Dev nD) :
    iprop((bigSepL pairs fun p => iprop(∃ f, recvPts (F := F) c (slot (peer c p.2) p.1) f))
        ∗ bigSepL pairs fun p => iprop(∃ f, gathPts (F := F) c (slot (peer c p.2) p.1) fullShare f))
      = bigSepL others fun o => barPay (F := F) (peer c o) c := by
  rw [← bigSepL_pair, pairs_byOther]; rfl

theorem takeover (c : Dev nD) :
    (bigSep Finset.univ fun o : Fin 15 => barPay (F := F) c (peer c o))
      = iprop((bigSepL pairs fun p => iprop(∃ f, recvPts (F := F) (peer c p.2) (slot c p.1) f))
        ∗ bigSepL pairs fun p => iprop(∃ f, gathPts (F := F) (peer c p.2) (slot c p.1) fullShare f)) := by
  rw [← bigSepL_pair, pairs_byOther, bigSep_univ_eq_bigSepL others others_univ others_nodup']; rfl

/-! ## What each loop takes and gives -/

theorem signals_take (c : Dev nD) :
    iprop((bigSepL others fun o => tokOf (F := F) (peer c o, none) c) ∗ bigSepL others fun o => barPay (F := F) (peer c o) c)
      = bigSepL others (signalPre (F := F) c) := by
  rw [← bigSepL_pair]; rfl

theorem scatters_take (c : Dev nD) :
    iprop((bigSepL pairs fun p => stagePts c (slot (peer c p.2) p.1) (stageC X c))
        ∗ (bigSepL pairs fun p => iprop(∃ f, recvPts (F := F) (peer c p.2) (slot c p.1) f))
        ∗ (bigSepL pairs fun p => tokOf (F := F) (c, some (0, slot (peer 0 p.2) p.1)) c)
        ∗ bigSepL pairs fun p => tokOf (F := F) (peer c p.2, some (1, slot c p.1)) c)
      = bigSepL pairs (scatterPre X c) := by
  rw [← bigSepL_pair, ← bigSepL_pair, ← bigSepL_pair]; rfl

theorem terms_take (c : Dev nD) :
    iprop((bigSepL pairs fun p => credOf (F := F) c (some (1, slot (peer c p.2) p.1)) unitN)
        ∗ bigSepL pairs fun p => posOf (F := F) c (some (1, slot (peer c p.2) p.1)) 0)
      = bigSepL halves fun h => bigSepL others (termPre (F := F) c h) := by
  rw [← bigSepL_pair, pairs_byHalf]; rfl

theorem sends_take (c : Dev nD) :
    iprop((bigSepL pairs fun p => iprop(∃ f, gathPts (F := F) (peer c p.2) (slot c p.1) fullShare f))
        ∗ (bigSepL pairs fun p => tokOf (F := F) (c, some (2, slot (peer 0 p.2) p.1)) c)
        ∗ bigSepL pairs fun p => tokOf (F := F) (peer c p.2, some (3, slot c p.1)) c)
      = bigSepL halves fun h => bigSepL others (sendPre (F := F) c h) := by
  rw [← bigSepL_pair, ← bigSepL_pair, pairs_byHalf]; rfl

theorem halves_take (c : Dev nD) :
    iprop((bigSepL halves fun h => stagePts c (slot c h) (stageC X c))
        ∗ (bigSepL halves fun h => iprop(∃ f, gathPts (F := F) c (slot c h) fullShare f))
        ∗ (bigSepL halves fun h => iprop(∃ f, outPts (F := F) c (slot c h) f))
        ∗ (bigSepL halves fun h => bigSepL others (termPre (F := F) c h))
        ∗ bigSepL halves fun h => bigSepL others (sendPre (F := F) c h))
      = bigSepL halves (halfPre X c) := by
  rw [← bigSepL_pair, ← bigSepL_pair, ← bigSepL_pair, ← bigSepL_pair]; rfl

theorem halves_give (c : Dev nD) :
    bigSepL halves (halfPost X c)
      = iprop((bigSepL halves fun h => stagePts c (slot c h) (stageC X c))
        ∗ (bigSepL halves fun h => gathPts c (slot c h) kept (gathC X))
        ∗ (bigSepL halves fun h => outPts c (slot c h) (outC X c))
        ∗ ((bigSepL pairs fun p => posOf (F := F) c (some (1, slot (peer c p.2) p.1)) 1)
          ∗ bigSepL pairs fun p => recvPts c (slot (peer c p.2) p.1) (recvC X c))
        ∗ bigSepL pairs fun p => credOf (F := F) c (some (2, slot (peer 0 p.2) p.1)) unitN) := by
  rw [← bigSepL_pair pairs, pairs_byHalf, pairs_byHalf, ← bigSepL_pair, ← bigSepL_pair, ← bigSepL_pair, ← bigSepL_pair]; rfl

theorem collects_take (c : Dev nD) :
    iprop(((bigSepL pairs fun p => credOf (F := F) c (some (3, slot (peer c p.2) p.1)) unitN)
        ∗ bigSepL pairs fun p => posOf (F := F) c (some (3, slot (peer c p.2) p.1)) 0)
        ∗ bigSepL pairs fun p => iprop(∃ f, outPts (F := F) c (slot (peer c p.2) p.1) f))
      = bigSepL pairs (collectPre (F := F) c) := by
  rw [← bigSepL_pair, ← bigSepL_pair]; rfl

theorem collects_give (c : Dev nD) :
    bigSepL pairs (collectPost X c)
      = iprop((bigSepL pairs fun p => posOf (F := F) c (some (3, slot (peer c p.2) p.1)) 1)
        ∗ (bigSepL pairs fun p => gathPts c (slot (peer c p.2) p.1) fullShare (gathC X))
        ∗ bigSepL pairs fun p => outPts c (slot (peer c p.2) p.1) (outC X c)) := by
  rw [← bigSepL_pair, ← bigSepL_pair]; rfl

theorem lefts_take (k : Fin 4) (c : Dev nD) :
    iprop((bigSepL pairs fun p => credOf (F := F) c (some (k, slot (peer 0 p.2) p.1)) unitN)
        ∗ bigSepL pairs fun p => posOf (F := F) c (some (k, slot (peer 0 p.2) p.1)) 0)
      = bigSepL pairs (leftPre (F := F) k c) := by
  rw [← bigSepL_pair]; rfl

theorem lefts_give (k : Fin 4) (c : Dev nD) :
    bigSepL pairs (leftPost X k c)
      = iprop((bigSepL pairs fun p => posOf (F := F) c (some (k, slot (peer 0 p.2) p.1)) 1)
        ∗ bigSepL pairs fun p => copyPay X c k (slot (peer 0 p.2) p.1)) := by
  rw [← bigSepL_pair]; rfl

/-! ## Buffers put together -/

theorem copyPay_stage_sent (c : Dev nD) (p : Fin 2 × Fin 15) :
    copyPay X c 0 (slot (peer 0 p.2) p.1) = stagePts c (slot (peer c p.2) p.1) (stageC X c) := by
  show stagePts c (slot (peer c (dist (slot (peer 0 p.2) p.1))) (part (slot (peer 0 p.2) p.1))) (stageC X c) = _
  rw [dist_send, part_slot]

theorem copyPay_gath_sent (c : Dev nD) (p : Fin 2 × Fin 15) :
    copyPay X c 2 (slot (peer 0 p.2) p.1) = gathPts c (slot c p.1) (lent p.2) (gathC X) := by
  show gathPts c (slot c (part (slot (peer 0 p.2) p.1))) (lent (dist (slot (peer 0 p.2) p.1))) (gathC X) = _
  rw [dist_send, part_slot]

theorem stage_back (c : Dev nD) :
    iprop((bigSepL pairs fun p => copyPay X c 0 (slot (peer 0 p.2) p.1)) ∗ bigSepL halves fun h => stagePts c (slot c h) (stageC X c))
      ⊢ iprop(∃ f : Slots F, ((c : Thread nD τ).loc cc0_scratch0) ↦{fullShare} f) := by
  simp only [copyPay_stage_sent]
  rw [← split_slots c fun j => stagePts c j (stageC X c), ← stage_slots]
  exact some_of (Φ := fun f : Slots F => (((c : Thread nD τ).loc cc0_scratch0) ↦{fullShare} f : sProp 𝕄)) (stageC X c)

theorem recv_back (c : Dev nD) :
    iprop((bigSepL pairs fun p => recvPts c (slot (peer c p.2) p.1) (recvC X c))
        ∗ bigSepL halves fun h => iprop(∃ f, recvPts (F := F) c (slot c h) f))
      ⊢ iprop(∃ f : Slots F, ((c : Thread nD τ).loc cc0_scratch1) ↦{fullShare} f) := by
  have h : (bigSepL pairs fun p => recvPts c (slot (peer c p.2) p.1) (recvC X c))
      ⊢ bigSepL pairs fun p => iprop(∃ f, recvPts (F := F) c (slot (peer c p.2) p.1) f) :=
    bigSepL_mono fun p _ => some_of (Φ := fun f => recvPts (F := F) c (slot (peer c p.2) p.1) f) (recvC X c)
  have hj := recv_join c (recvC X c)
  rw [split_slots c fun j => iprop(∃ f, recvPts (F := F) c j f)] at hj
  iintro ⟨H1, H2⟩
  iapply hj
  isplitl [H1]
  · iapply h; iexact H1
  iexact H2

theorem gath_back (c : Dev nD) :
    iprop((bigSepL pairs fun p => gathPts c (slot (peer c p.2) p.1) fullShare (gathC X))
        ∗ (bigSepL halves fun h => gathPts c (slot c h) kept (gathC X))
        ∗ bigSepL pairs fun p => copyPay X c 2 (slot (peer 0 p.2) p.1))
      ⊢ iprop(∃ f : Slots F, ((c : Thread nD τ).loc cc0_scratch2) ↦{fullShare} f) := by
  simp only [copyPay_gath_sent]
  rw [pairs_byHalf fun p => gathPts c (slot c p.1) (lent p.2) (gathC X), ← bigSepL_pair]
  have h : (bigSepL halves fun h => iprop(gathPts c (slot c h) kept (gathC X)
        ∗ bigSepL others fun o => gathPts c (slot c h) (lent o) (gathC X)))
      ⊢ bigSepL halves fun h => gathPts c (slot c h) fullShare (gathC X) :=
    bigSepL_mono fun h _ => gath_undeal c (slot c h) (gathC X)
  have hs := Entails.of_eq (split_slots c fun j => gathPts c j fullShare (gathC X)).symm
  rw [← gath_slots] at hs
  iintro ⟨H1, H2⟩
  iexists (gathC X)
  iapply hs
  isplitl [H1]; · iexact H1
  iapply h; iexact H2

theorem out_back (c : Dev nD) :
    iprop((bigSepL pairs fun p => outPts c (slot (peer c p.2) p.1) (outC X c))
        ∗ bigSepL halves fun h => outPts c (slot c h) (outC X c))
      ⊢ (((c : Thread nD τ).loc cc0_stg1_0) ↦{fullShare} outC X c : sProp 𝕄) := by
  rw [out_blocks, split_slots c fun j => outPts c j (outC X c)]

/-! ## Cells taken to their end -/

theorem over_used (c : Dev nD) (x : Cell) : posOf (F := F) c x 1 ⊢ over X c x := by
  unfold over
  iintro H
  iexists 1
  isplitr
  · ipureintro; exact fun r hr => duties_later X _ r hr
  iexact H

theorem over_unused (c : Dev nD) (x : Cell) (h : (proto X).duties (kcell (c, x)) 0 = ∅) : posOf (F := F) c x 0 ⊢ over X c x := by
  unfold over
  iintro H
  iexists 0
  isplitr
  · ipureintro
    intro r _
    rcases Nat.eq_zero_or_pos r with rfl | hr
    · exact h
    · exact duties_later X _ r hr
  iexact H

theorem over_kind (c d : Dev nD) (k : Fin 4) (hk : ∀ h, (proto X).duties (kcell (c, some (k, slot d h))) 0 = ∅) :
    iprop((bigSepL pairs fun p => posOf (F := F) c (some (k, slot (peer d p.2) p.1)) 1)
        ∗ bigSepL halves fun h => posOf (F := F) c (some (k, slot d h)) 0)
      ⊢ bigSep Finset.univ fun j => over X c (some (k, j)) := by
  have h1 : (bigSepL pairs fun p => posOf (F := F) c (some (k, slot (peer d p.2) p.1)) 1)
      ⊢ bigSepL pairs fun p => over X c (some (k, slot (peer d p.2) p.1)) := bigSepL_mono fun p _ => over_used X c _
  have h2 : (bigSepL halves fun h => posOf (F := F) c (some (k, slot d h)) 0)
      ⊢ bigSepL halves fun h => over X c (some (k, slot d h)) := bigSepL_mono fun h _ => over_unused X c _ (hk h)
  rw [split_slots d fun j => over X c (some (k, j))]
  iintro ⟨H1, H2⟩
  isplitl [H1]
  · iapply h1; iexact H1
  · iapply h2; iexact H2

end Cert.KernelIdeal.Looped

end
-- ==== Proof.Sound.lean ====
/-
The kernel runs on one device `c`, from what it starts with to what it leaves.
-/
module

public import proofs.«01_k».proof.Proof.Body

@[expose] public section

noncomputable section

namespace Cert.KernelIdeal.Looped

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Cert.KernelIdeal.Gen

variable {F : FTy → Type} [FloatOps F]

local notation "𝕄" => MT nD τ sig Unit (Elt F) ℕ UU ℕ

variable (X : Dev nD → Vec F S1024x512 .bf16) (K : Dev nD × Cell → ℕ)

theorem dues_bar_level (c : Dev nD) :
    ∀ y ∈ pairs.map (scatterDue c) ++ pairs.map (gatherDue c), cellLevel none < cellLevel y.2 := by
  intro y hy
  rcases List.mem_append.mp hy with hy | hy
  · obtain ⟨p, -, rfl⟩ := List.mem_map.mp hy
    show 1 < 2
    decide
  · obtain ⟨p, -, rfl⟩ := List.mem_map.mp hy
    show 1 < 3
    decide

/-- The barrier: the slots the others fill go out, the slots this device fills come in. -/
theorem barrier_step (c : Dev nD) :
    iprop(Know X K ∗ Owes c (dues c) ∗ bigSepL others (signalPre (F := F) c) ∗ credOf c none 15 ∗ posOf c none 0)
      ⊢ Runs c (barrier (F := F) c)
          fun _ => iprop(Owes c (pairs.map (scatterDue c) ++ pairs.map (gatherDue c)) ∗ posOf (F := F) c none 1
            ∗ bigSep Finset.univ fun o : Fin 15 => barPay (F := F) c (peer c o)) := by
  have hsig := runs_each (c := c) (Know X K) (fun o => semSignalWord (barDev c o) barSem 1#32)
    (fun os => Owes c (os.map (barDue c) ++ (pairs.map (scatterDue c) ++ pairs.map (gatherDue c))))
    (signalPre (F := F) c) (fun _ => iprop(emp))
    (fun o os => signal_step X K c o (os.map (barDue c) ++ (pairs.map (scatterDue c) ++ pairs.map (gatherDue c)))) others
  unfold barrier
  iintro ⟨#HI, HO, Hs, Hc, Hat⟩
  iapply runs_bind
  isplitl [HO Hs]
  · iapply hsig
    isplitr; · iexact HI
    isplitl [HO]
    · iexact HO
    iexact Hs
  iintro %_ ⟨HO, -⟩
  iapply (barrier_wait X K c (pairs.map (scatterDue c) ++ pairs.map (gatherDue c)) (dues_bar_level c))
  isplitr; · iexact HI
  isplitl [HO]; · iexact HO
  isplitl [Hc] <;> iassumption

theorem device_step (c : Dev nD) : (emp : sProp 𝕄) ⊢ Runs (F := F) c (Prog.lift .deviceId) fun d => iprop(⌜d = c⌝) := by
  unfold Runs
  simp only [Prog.lift]
  rw [wp_deviceId, wp_ret]
  iintro -
  imodintro
  ipureintro
  rfl

theorem scatters_run (c : Dev nD) (harg2 harg3) :
    iprop(Know X K ∗ Owes c (pairs.map (scatterDue c) ++ pairs.map (gatherDue c)) ∗ bigSepL pairs (scatterPre X c))
      ⊢ Runs c (each (fun p => scatterOne (F := F) stageM recvM cc0_scratch3 cc0_scratch4 harg2 harg3 c p.1 p.2) pairs)
          fun _ => iprop(Owes c (pairs.map (gatherDue c))
            ∗ bigSepL pairs fun p => credOf (F := F) c (some (0, slot (peer 0 p.2) p.1)) unitN) :=
  runs_each (Know X K) _ (fun ps => Owes c (ps.map (scatterDue c) ++ pairs.map (gatherDue c))) _ _
    (fun p ps => scatter_step X K c p.1 p.2 harg2 harg3 (ps.map (scatterDue c) ++ pairs.map (gatherDue c))) pairs

theorem halves_run (c : Dev nD) (harg2 harg3 harg4) :
    iprop(Know X K ∗ Owes c (gatherDues c halves) ∗ bigSepL halves (halfPre X c))
      ⊢ Runs c (each (half (F := F) outM stageM recvM gathM cc0_scratch4 cc0_scratch5 cc0_scratch6 harg2 harg3 harg4 c) halves)
          fun _ => iprop(Owes c [] ∗ bigSepL halves (halfPost X c)) :=
  runs_each (Know X K) _ (fun hs => Owes c (gatherDues c hs)) _ _
    (fun h hs => half_step X K c h hs harg2 harg3 harg4) halves

theorem collects_run (c : Dev nD) (harg4) :
    iprop(Know X K ∗ Owes c [] ∗ bigSepL pairs (collectPre (F := F) c))
      ⊢ Runs c (each (fun p => collectOne (F := F) outM gathM cc0_scratch6 harg4 c p.1 p.2) pairs)
          fun _ => iprop(Owes c [] ∗ bigSepL pairs (collectPost X c)) :=
  runs_each (Know X K) _ (fun _ => Owes c []) _ _ (fun p _ => collect_step X K c p.1 p.2 harg4) pairs

theorem scattersDone_run (c : Dev nD) (harg2 harg3) :
    iprop(Know X K ∗ Owes c [] ∗ bigSepL pairs (leftPre (F := F) 0 c))
      ⊢ Runs c (each (fun p => scatterDone (F := F) stageM recvM cc0_scratch3 harg2 harg3 c p.1 p.2) pairs)
          fun _ => iprop(Owes c [] ∗ bigSepL pairs (leftPost X 0 c)) :=
  runs_each (Know X K) _ (fun _ => Owes c []) _ _ (fun p _ => scatterDone_step X K c p.1 p.2 harg2 harg3) pairs

theorem gathersDone_run (c : Dev nD) (harg4) :
    iprop(Know X K ∗ Owes c [] ∗ bigSepL pairs (leftPre (F := F) 2 c))
      ⊢ Runs c (each (fun p => gatherDone (F := F) gathM cc0_scratch5 harg4 c p.1 p.2) pairs)
          fun _ => iprop(Owes c [] ∗ bigSepL pairs (leftPost X 2 c)) :=
  runs_each (Know X K) _ (fun _ => Owes c []) _ _ (fun p _ => gatherDone_step X K c p.1 p.2 harg4) pairs

theorem body_runs (c : Dev nD) (harg2 harg3 harg4) :
    iprop(Know X K ∗ Owes c (dues c) ∗ tokens (F := F) c ∗ credits (F := F) c ∗ (bigSep Finset.univ fun x : Cell => posOf (F := F) c x 0)
        ∗ scratch (F := F) c ∗ (((c : Thread nD τ).loc cc0_stg0_0) ↦{fullShare} X c)
        ∗ ∃ f : Rows F, ((c : Thread nD τ).loc cc0_stg1_0) ↦{fullShare} f)
      ⊢ Runs c (looped (F := F) (Memref.whole cc0_stg0_0) outM stageM recvM gathM cc0_scratch3 cc0_scratch4 cc0_scratch5
          cc0_scratch6 harg2 harg3 harg4)
          fun _ => iprop(Owes c [] ∗ (bigSep Finset.univ fun x : Cell => over X c x) ∗ scratch (F := F) c
            ∗ (((c : Thread nD τ).loc cc0_stg0_0) ↦{fullShare} X c) ∗ (((c : Thread nD τ).loc cc0_stg1_0) ↦{fullShare} outC X c)) := by
  unfold looped tokens credits scratch
  iintro ⟨#HI, HO, ⟨Ht0, Ht1, Ht2, Ht3, Ht4⟩, ⟨Hc0, Hc1, Hc3⟩, Hpos, ⟨Hst, Hrv, Hgt⟩, Hx, Hout⟩
  ihave Hpos := (Entails.of_eq (split_cells fun x : Cell => posOf (F := F) c x 0)) $$ Hpos
  icases Hpos with ⟨Hp, Hp0, Hp1, Hp2, Hp3⟩
  iapply runs_bind
  isplitr
  · iapply (device_step (F := F) c)
    iempintro
  iintro %d %hd
  subst hd
  -- the staging buffer
  iapply runs_bind
  isplitl [Hx Hst]
  · iapply (fill_step X d harg2)
    isplitl [Hx] <;> iassumption
  iintro %_ ⟨Hx, Hst⟩
  ihave Hst := (Entails.of_eq ((stage_slots d (stageC X d)).trans (split_slots d fun j => stagePts d j (stageC X d)))) $$ Hst
  icases Hst with ⟨Hst, HstO⟩
  ihave Hrv := (recv_some d) $$ Hrv
  ihave Hrv := (Entails.of_eq (split_slots d fun j => iprop(∃ f, recvPts (F := F) d j f))) $$ Hrv
  icases Hrv with ⟨Hrv, HrvO⟩
  ihave Hgt := (gath_some d) $$ Hgt
  ihave Hgt := (Entails.of_eq (split_slots d fun j => iprop(∃ f, gathPts (F := F) d j fullShare f))) $$ Hgt
  icases Hgt with ⟨Hgt, HgtO⟩
  ihave Hout := (out_some d) $$ Hout
  ihave Hout := (Entails.of_eq (split_slots d fun j => iprop(∃ f, outPts (F := F) d j f))) $$ Hout
  icases Hout with ⟨Hout, HoutO⟩
  ihave Hp0 := (Entails.of_eq (split_slots 0 fun j => posOf (F := F) d (some (0, j)) 0)) $$ Hp0
  icases Hp0 with ⟨Hp0, Hp0O⟩
  ihave Hp1 := (Entails.of_eq (split_slots d fun j => posOf (F := F) d (some (1, j)) 0)) $$ Hp1
  icases Hp1 with ⟨Hp1, Hp1O⟩
  ihave Hp2 := (Entails.of_eq (split_slots 0 fun j => posOf (F := F) d (some (2, j)) 0)) $$ Hp2
  icases Hp2 with ⟨Hp2, Hp2O⟩
  ihave Hp3 := (Entails.of_eq (split_slots d fun j => posOf (F := F) d (some (3, j)) 0)) $$ Hp3
  icases Hp3 with ⟨Hp3, Hp3O⟩
  -- the barrier
  iapply runs_bind
  isplitl [HO Ht0 Hrv Hgt Hc0 Hp]
  · iapply (barrier_step X K d)
    isplitr; · iexact HI
    isplitl [HO]; · iexact HO
    isplitl [Ht0 Hrv Hgt]
    · iapply (Entails.of_eq (signals_take (F := F) d))
      isplitl [Ht0]; · iexact Ht0
      iapply (Entails.of_eq (handover (F := F) d))
      isplitl [Hrv] <;> iassumption
    isplitl [Hc0] <;> iassumption
  iintro %_ ⟨HO, Hp, Hbar⟩
  ihave Hbar := (Entails.of_eq (takeover (F := F) d)) $$ Hbar
  icases Hbar with ⟨Hrv, Hgt⟩
  -- the copies of the reduction
  iapply runs_bind
  isplitl [HO Hst Hrv Ht1 Ht2]
  · iapply (scatters_run X K d harg2 harg3)
    isplitr; · iexact HI
    isplitl [HO]; · iexact HO
    iapply (Entails.of_eq (scatters_take X d))
    isplitl [Hst]; · iexact Hst
    isplitl [Hrv]; · iexact Hrv
    isplitl [Ht1] <;> iassumption
  iintro %_ ⟨HO, Hs0⟩
  -- the two halves
  iapply runs_bind
  isplitl [HO HstO HgtO HoutO Hc1 Hp1 Hgt Ht3 Ht4]
  · iapply (halves_run X K d harg2 harg3 harg4)
    isplitr; · iexact HI
    isplitl [HO]; · iexact HO
    iapply (Entails.of_eq (halves_take X d))
    isplitl [HstO]; · iexact HstO
    isplitl [HgtO]; · iexact HgtO
    isplitl [HoutO]; · iexact HoutO
    isplitl [Hc1 Hp1]
    · iapply (Entails.of_eq (terms_take (F := F) d))
      isplitl [Hc1] <;> iassumption
    iapply (Entails.of_eq (sends_take (F := F) d))
    isplitl [Hgt]; · iexact Hgt
    isplitl [Ht3] <;> iassumption
  iintro %_ ⟨HO, Hh⟩
  ihave Hh := (Entails.of_eq (halves_give X d)) $$ Hh
  icases Hh with ⟨HstO, HgtO, HoutO, ⟨Hp1, Hrv⟩, Hs2⟩
  -- the gathered blocks
  iapply runs_bind
  isplitl [HO Hc3 Hp3 Hout]
  · iapply (collects_run X K d harg4)
    isplitr; · iexact HI
    isplitl [HO]; · iexact HO
    iapply (Entails.of_eq (collects_take (F := F) d))
    isplitl [Hc3 Hp3]
    · isplitl [Hc3] <;> iassumption
    iexact Hout
  iintro %_ ⟨HO, Hh⟩
  ihave Hh := (Entails.of_eq (collects_give X d)) $$ Hh
  icases Hh with ⟨Hp3, Hgt, Hout⟩
  -- the copies that have left
  iapply runs_bind
  isplitl [HO Hs0 Hp0]
  · iapply (scattersDone_run X K d harg2 harg3)
    isplitr; · iexact HI
    isplitl [HO]; · iexact HO
    iapply (Entails.of_eq (lefts_take (F := F) 0 d))
    isplitl [Hs0] <;> iassumption
  iintro %_ ⟨HO, Hh⟩
  ihave Hh := (Entails.of_eq (lefts_give X 0 d)) $$ Hh
  icases Hh with ⟨Hp0, Hst⟩
  iapply runs_wand
  isplitl [HO Hs2 Hp2]
  · iapply (gathersDone_run X K d harg4)
    isplitr; · iexact HI
    isplitl [HO]; · iexact HO
    iapply (Entails.of_eq (lefts_take (F := F) 2 d))
    isplitl [Hs2] <;> iassumption
  iintro %_ ⟨HO, Hh⟩
  ihave Hh := (Entails.of_eq (lefts_give X 2 d)) $$ Hh
  icases Hh with ⟨Hp2, Hgs⟩
  isplitl [HO]; · iexact HO
  isplitl [Hp Hp0 Hp0O Hp1 Hp1O Hp2 Hp2O Hp3 Hp3O]
  · iapply (Entails.of_eq (split_cells fun x : Cell => over X d x).symm)
    isplitl [Hp]; · iapply (over_used X d none); iexact Hp
    isplitl [Hp0 Hp0O]
    · iapply (over_kind X d 0 0 fun h => duties_send_own X d not_arrival_zero h)
      isplitl [Hp0] <;> iassumption
    isplitl [Hp1 Hp1O]
    · iapply (over_kind X d d 1 fun h => duties_arrival_own X d (.inl rfl) h)
      isplitl [Hp1] <;> iassumption
    isplitl [Hp2 Hp2O]
    · iapply (over_kind X d 0 2 fun h => duties_send_own X d not_arrival_two h)
      isplitl [Hp2] <;> iassumption
    iapply (over_kind X d d 3 fun h => duties_arrival_own X d (.inr rfl) h)
    isplitl [Hp3] <;> iassumption
  isplitl [Hst HstO Hrv HrvO Hgt HgtO Hgs]
  · isplitl [Hst HstO]
    · iapply (stage_back X d)
      isplitl [Hst] <;> iassumption
    isplitl [Hrv HrvO]
    · iapply (recv_back X d)
      isplitl [Hrv] <;> iassumption
    iapply (gath_back X d)
    isplitl [Hgt]; · iexact Hgt
    isplitl [HgtO] <;> iassumption
  isplitl [Hx]; · iexact Hx
  iapply (out_back X d)
  isplitl [Hout] <;> iassumption

end Cert.KernelIdeal.Looped

end
-- ==== Proof.Deal.lean ====
/-
What the devices start with, dealt out: every cell of the protocol at its round, the rights to pay, and the units a device
may wait for.

The rights are minted by the device that holds them: for each other device its barrier, and for each copy its send cell and
its arrival cell.
-/
module

public import proofs.«01_k».proof.Proof.Sound

@[expose] public section

noncomputable section

namespace Cert.KernelIdeal.Looped

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The cells and the rights -/

/-- All the cells of the protocol. -/
def cells : Finset (GSem nD τ sig) := Finset.univ.map ⟨kcell, kcell_inj⟩

/-- A right of a device: to pay another device's barrier, or a cell of kind `k` of one of its copies. -/
abbrev Right : Type := Fin 15 ⊕ (Fin 4 × (Fin 2 × Fin 15))

/-- The cell a device pays with a right. -/
def payee (c : Dev nD) : Right → Dev nD × Cell
  | .inl o => (peer c o, none)
  | .inr (0, p) => (c, some (0, slot (peer 0 p.2) p.1))
  | .inr (1, p) => (peer c p.2, some (1, slot c p.1))
  | .inr (2, p) => (c, some (2, slot (peer 0 p.2) p.1))
  | .inr (3, p) => (peer c p.2, some (3, slot c p.1))

theorem send_inj {p p' : Fin 2 × Fin 15} (h : slot (peer 0 p.2) p.1 = slot (peer 0 p'.2) p'.1) : p = p' :=
  Prod.ext (slot_inj h).2 (peer_inj 0 (slot_inj h).1)

theorem arrival_inj {c : Dev nD} {p p' : Fin 2 × Fin 15} (h : peer c p.2 = peer c p'.2) (h' : slot c p.1 = slot c p'.1) : p = p' :=
  Prod.ext (slot_inj h').2 (peer_inj c h)

theorem payee_inj (c : Dev nD) : Function.Injective (payee c) := by
  rintro (o | ⟨k, p⟩) (o' | ⟨k', p'⟩) h
  · exact congrArg _ (peer_inj c (congrArg Prod.fst h))
  · exfalso
    match k' with
    | 0 | 1 | 2 | 3 => exact absurd (congrArg Prod.snd h) (fun e => by cases e)
  · exfalso
    match k with
    | 0 | 1 | 2 | 3 => exact absurd (congrArg Prod.snd h) (fun e => by cases e)
  · have hk : ∀ (k : Fin 4) (p : Fin 2 × Fin 15), ∃ j, (payee c (.inr (k, p))).2 = some (k, j) := fun k p =>
      match k with
      | 0 => ⟨_, rfl⟩
      | 1 => ⟨_, rfl⟩
      | 2 => ⟨_, rfl⟩
      | 3 => ⟨_, rfl⟩
    obtain ⟨j, hj⟩ := hk k p
    obtain ⟨j', hj'⟩ := hk k' p'
    have e : (some (k, j) : Cell) = some (k', j') := hj.symm.trans ((congrArg Prod.snd h).trans hj')
    have ek : k = k' := congrArg Prod.fst (Option.some.inj e)
    subst ek
    refine congrArg (fun p => Sum.inr (k, p)) ?_
    have hs := congrArg Prod.snd h
    have hf := congrArg Prod.fst h
    match k with
    | 0 => exact send_inj (congrArg Prod.snd (Option.some.inj hs))
    | 1 => exact arrival_inj hf (congrArg Prod.snd (Option.some.inj hs))
    | 2 => exact send_inj (congrArg Prod.snd (Option.some.inj hs))
    | 3 => exact arrival_inj hf (congrArg Prod.snd (Option.some.inj hs))

/-- A right, by the device that holds it. -/
def mintOf (x : Dev nD × Right) : GSem nD τ sig × ℕ × Dev nD := (kcell (payee x.1 x.2), 0, x.1)

theorem mintOf_inj : Function.Injective mintOf := by
  rintro ⟨c, r⟩ ⟨c', r'⟩ h
  have hc : c = c' := congrArg (fun y : GSem nD τ sig × ℕ × Dev nD => y.2.2) h
  subst hc
  exact congrArg _ (payee_inj c (kcell_inj (congrArg Prod.fst h)))

/-- All the rights. -/
def rights : Finset (GSem nD τ sig × ℕ × Dev nD) := Finset.univ.map ⟨mintOf, mintOf_inj⟩

theorem bigSep_kinds (Φ : Fin 4 → sProp 𝕄) : bigSep Finset.univ Φ = iprop(Φ 0 ∗ Φ 1 ∗ Φ 2 ∗ Φ 3) := by
  rw [bigSep_univ_eq_bigSepL [0, 1, 2, 3] kinds_univ kinds_nodup, bigSepL_cons', bigSepL_cons', bigSepL_cons', bigSepL_singleton]

/-- The rights of one device, loop by loop. -/
theorem tokens_eq (c : Dev nD) : (bigSep Finset.univ fun r : Right => tokOf (F := F) (payee c r) c) = tokens (F := F) c := by
  have hp (Φ : Fin 2 × Fin 15 → sProp 𝕄) : bigSep Finset.univ Φ = bigSepL pairs Φ :=
    bigSep_univ_eq_bigSepL pairs pairs_univ pairs_nodup Φ
  rw [BI.bigSep_univ_sum, bigSep_univ_prod, bigSep_univ_eq_bigSepL others others_univ others_nodup',
    bigSep_kinds, hp, hp, hp, hp]
  rfl

/-! ## What is dealt -/

variable (X : Dev nD → Vec F S1024x512 .bf16)

/-- What device `c` is dealt: its cells at round 0, its positions there, and its rights. -/
def dealt (c : Dev nD) : sProp 𝕄 :=
  iprop((bigSep Finset.univ fun x : Cell => roundState ER (proto X) (kcell (c, x)) 0)
    ∗ (bigSep Finset.univ fun x : Cell => posOf (F := F) c x 0)
    ∗ (bigSep Finset.univ fun x : Cell => reached ER (kcell (c, x)) 0) ∗ tokens (F := F) c)

theorem bigSep_cells (Φ : GSem nD τ sig → sProp 𝕄) :
    bigSep cells Φ = bigSep Finset.univ fun c : Dev nD => bigSep Finset.univ fun x : Cell => Φ (kcell (c, x)) := by
  unfold cells; rw [bigSep_map, bigSep_univ_prod]; rfl

theorem bigSep_rights :
    bigSep rights (fun x => (dutyTok ER x.1 x.2.1 x.2.2 : sProp 𝕄)) = bigSep Finset.univ fun c : Dev nD => tokens (F := F) c := by
  unfold rights; rw [bigSep_map, bigSep_univ_prod]
  exact bigSep_congr fun c _ => tokens_eq (F := F) c

theorem deal : BI.own (ER (initOf cells rights)) ⊢ (|==> bigSep Finset.univ (dealt X) : sProp 𝕄) := by
  iintro H
  imod (Rounds.fund ER (proto X) cells rights) $$ H with ⟨Hs, Hr, Hp, Ht⟩
  imodintro
  ihave Hs := (Entails.of_eq (bigSep_cells fun g => roundState ER (proto X) g 0)) $$ Hs
  ihave Hp := (Entails.of_eq (bigSep_cells (F := F) fun g => atPos ER g 0 ∅ 0)) $$ Hp
  ihave Hr := (Entails.of_eq (bigSep_cells (F := F) fun g => reached ER g 0)) $$ Hr
  ihave Ht := (Entails.of_eq (bigSep_rights (F := F))) $$ Ht
  unfold dealt; simp only [bigSep_sep']
  isplitl [Hs]; · iexact Hs
  isplitl [Hp]; · iexact Hp
  isplitl [Hr] <;> iassumption

/-! ## The semaphores -/

/-- The kernel's own semaphores: the four arrays. -/
abbrev osem (x : Fin 4 × Fin 32) : SemLoc sig := csem (some x)

theorem ownSems_eq (c : Dev nD) :
    (Pipeline.ownSems0 (Ix := Unit) (Name := ℕ) (U := UU) (Lvl := ℕ) (Val := Elt F) (τ := τ) osem c : sProp 𝕄)
      = bigSep Finset.univ fun x : Fin 4 × Fin 32 => semVal (kcell (c, some x)) 0 := rfl

theorem unscoped_sems : (Finset.univ.filter fun sm : SemLoc sig => ¬ sm.isScoped .tc) = ([csem none] : List (SemLoc sig)).toFinset := by
  decide +kernel

theorem unscopedSems_eq (c : Dev nD) : (unscopedSems0 c : sProp 𝕄) = semVal (kcell (c, none)) 0 := by
  unfold unscopedSems0
  rw [bigSep_eq_bigSepL_of_eq [csem none] unscoped_sems (by decide), bigSepL_singleton]

/-- A family over a device's cells: the barrier's and the arrays'. -/
theorem bigSep_option (Φ : Cell → sProp 𝕄) :
    bigSep Finset.univ Φ = iprop(Φ none ∗ bigSep Finset.univ fun x : Fin 4 × Fin 32 => Φ (some x)) := by
  rw [bigSep_univ_split none,
    show (Finset.univ.erase none : Finset Cell) = Finset.univ.map Function.Embedding.some from by
      ext x; cases x <;> simp, bigSep_map]
  rfl

theorem sems_eq (c : Dev nD) :
    (bigSep Finset.univ fun x : Cell => (semVal (kcell (c, x)) 0 : sProp 𝕄))
      = iprop(unscopedSems0 c ∗ Pipeline.ownSems0 (Ix := Unit) (Name := ℕ) (U := UU) (Lvl := ℕ) (Val := Elt F) (τ := τ) osem c) := by
  rw [bigSep_option, unscopedSems_eq, ownSems_eq]

theorem own_facts : Pipeline.OwnSemFacts spec0 osem where
  isScoped := by decide +kernel
  inj := fun x y h => Option.some.inj (csem_inj h)
  disj := by decide +kernel

/-! ## Every cell under the protocol -/

theorem cells_alloc (c : Dev nD) :
    iprop((bigSep Finset.univ fun x : Cell => (semVal (kcell (c, x)) 0 : sProp 𝕄))
        ∗ bigSep Finset.univ fun x : Cell => roundState ER (proto X) (kcell (c, x)) 0)
      ⊢ |={Set.univ}=> bigSep Finset.univ fun x : Cell => iprop(∃ κ : ℕ, cellInv ER (proto X) κ (kcell (c, x))) := by
  rw [← bigSep_sep']
  exact (bigSep_mono fun x _ => (Rounds.body_intro ER (proto X) (kcell (c, x))).trans inv_alloc).trans (bigSep_fupd _ _)

/-- What a device starts from, under the names the cells have got. -/
def entry (K : Dev nD × Cell → ℕ) (c : Dev nD) : sProp 𝕄 :=
  iprop(records X K ∗ (bigSep Finset.univ fun x : Cell => posOf (F := F) c x 0) ∗ tokens (F := F) c)

theorem device_alloc (c : Dev nD) :
    iprop(Pipeline.ownSems0 (Ix := Unit) (Name := ℕ) (U := UU) (Lvl := ℕ) (Val := Elt F) (τ := τ) osem c ∗ unscopedSems0 c ∗ dealt X c)
      ⊢ |={Set.univ}=> iprop((bigSep Finset.univ fun x : Cell => iprop(∃ κ : ℕ, cellInv ER (proto X) κ (kcell (c, x))))
          ∗ (bigSep Finset.univ fun x : Cell => posOf (F := F) c x 0)
          ∗ (bigSep Finset.univ fun x : Cell => reached ER (kcell (c, x)) 0) ∗ tokens (F := F) c) := by
  unfold dealt
  iintro ⟨Ho, Hu, Hs, Hp, Hr, Ht⟩
  imod (cells_alloc X c) $$ [Ho Hu Hs] with HI
  · isplitl [Ho Hu]
    · iapply (Entails.of_eq (sems_eq (F := F) c).symm)
      isplitl [Hu] <;> iassumption
    iexact Hs
  imodintro
  isplitl [HI]; · iexact HI
  isplitl [Hp]; · iexact Hp
  isplitl [Hr] <;> iassumption

theorem regroup :
    (bigSep Finset.univ fun c : Dev nD => iprop((bigSep Finset.univ fun x : Cell => iprop(∃ κ : ℕ, cellInv ER (proto X) κ (kcell (c, x))))
          ∗ (bigSep Finset.univ fun x : Cell => posOf (F := F) c x 0)
          ∗ (bigSep Finset.univ fun x : Cell => reached ER (kcell (c, x)) 0) ∗ tokens (F := F) c) : sProp 𝕄)
      ⊢ bigSep Finset.univ fun c => iprop(∃ K, entry X K c) := by
  rw [bigSep_sep', bigSep_sep', bigSep_sep', ← bigSep_univ_prod (fun x : Dev nD × Cell => iprop(∃ κ : ℕ, cellInv ER (proto X) κ (kcell x))),
    ← bigSep_univ_prod (fun x : Dev nD × Cell => (reached ER (kcell x) 0 : sProp 𝕄))]
  iintro ⟨HI, Hp, #Hr, Ht⟩
  ihave HK := (BI.bigSep_exists_pi Finset.univ (fun (x : Dev nD × Cell) (κ : ℕ) => (cellInv ER (proto X) κ (kcell x) : sProp 𝕄))) $$ HI
  icases HK with ⟨%K, #HI⟩
  have hrec : iprop((bigSep Finset.univ fun x : Dev nD × Cell => cellInv ER (proto X) (K x) (kcell x))
      ∗ bigSep Finset.univ fun x : Dev nD × Cell => (reached ER (kcell x) 0 : sProp 𝕄)) ⊢ records X K := by
    unfold records record; rw [bigSep_sep']
  have hstep (c : Dev nD) : iprop(records X K ∗ ((bigSep Finset.univ fun x : Cell => posOf (F := F) c x 0) ∗ tokens (F := F) c))
      ⊢ iprop(∃ K, entry X K c) := by
    iintro H; iexists K; unfold entry; iexact H
  have hall := BI.bigSep_with_persistent (S := Finset.univ) (R := records X K)
    (Φ := fun c : Dev nD => iprop((bigSep Finset.univ fun x : Cell => posOf (F := F) c x 0) ∗ tokens (F := F) c))
    (Ψ := fun c => iprop(∃ K, entry X K c)) fun c _ => hstep c
  iapply hall
  isplitr
  · iapply hrec
    isplitr; · iexact HI
    iexact Hr
  iapply (Entails.of_eq (bigSep_sep' Finset.univ (fun c : Dev nD => bigSep Finset.univ fun x : Cell => posOf (F := F) c x 0) (tokens (F := F))).symm)
  isplitl [Hp] <;> iassumption

theorem setup :
    (bigSep Finset.univ fun c => iprop(Pipeline.ownSems0 (Ix := Unit) (Name := ℕ) (U := UU) (Lvl := ℕ) (Val := Elt F) (τ := τ) osem c
        ∗ unscopedSems0 c ∗ dealt X c) : sProp 𝕄)
      ⊢ |={Set.univ}=> bigSep Finset.univ fun c => iprop(∃ K, entry X K c) :=
  ((bigSep_mono fun c _ => device_alloc X c).trans (bigSep_fupd _ _)).trans (BI.fupd_mono (regroup X))

end Cert.KernelIdeal.Looped

end
-- ==== Proof.Credit.lean ====
/-
The units the devices owe each other, counted at the cell they go to: fifteen signals at a barrier, and one copy at each
arrival cell of another device's slot.
-/
module

public import proofs.«01_k».proof.Proof.Deal

@[expose] public section

noncomputable section

namespace Cert.KernelIdeal.Looped

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Counting -/

/-- What a list owes a cell: the cell's unit, as often as the cell is listed. -/
theorem owedL_count (l : List (Dev nD × Cell)) (x : Dev nD × Cell) : owedL l (kcell x) () = l.count x * cellUnit x.2 := by
  induction l with
  | nil => rw [List.count_nil, Nat.zero_mul]; rfl
  | cons y l ih =>
    unfold owedL
    rw [Pi.add_apply, Finsupp.add_apply, tallyAt_apply, ih, List.count_cons]
    by_cases h : y = x
    · subst h
      rw [if_pos ⟨rfl, rfl⟩, beq_self_eq_true, if_pos rfl, Nat.add_mul, Nat.one_mul]
    · rw [if_neg (fun e => h (kcell_inj e.1).symm), Nat.add_zero, if_neg (fun e => h (beq_iff_eq.mp e)), Nat.add_zero]

/-- How often device `d` pays a cell. -/
def pays (d : Dev nD) (x : Dev nD × Cell) : ℕ := (dues d).count x

theorem pays_split (d : Dev nD) (x : Dev nD × Cell) :
    pays d x = (others.map (barDue d)).count x + ((pairs.map (scatterDue d)).count x + (pairs.map (gatherDue d)).count x) := by
  unfold pays dues; rw [List.count_append, List.count_append]

theorem bars_none (d : Dev nD) (x : Dev nD × Cell) (h : x.2 ≠ none) : (others.map (barDue d)).count x = 0 :=
  List.count_eq_zero.mpr fun hm => by
    obtain ⟨o, -, rfl⟩ := List.mem_map.mp hm
    exact h rfl

theorem scatters_none (d : Dev nD) (x : Dev nD × Cell) (h : ∀ j, x.2 ≠ some (1, j)) : (pairs.map (scatterDue d)).count x = 0 :=
  List.count_eq_zero.mpr fun hm => by
    obtain ⟨p, -, rfl⟩ := List.mem_map.mp hm
    exact h _ rfl

theorem gathers_none (d : Dev nD) (x : Dev nD × Cell) (h : ∀ j, x.2 ≠ some (3, j)) : (pairs.map (gatherDue d)).count x = 0 :=
  List.count_eq_zero.mpr fun hm => by
    obtain ⟨p, -, rfl⟩ := List.mem_map.mp hm
    exact h _ rfl

/-- A device is at one distance from every other device. -/
theorem distances (d c : Dev nD) (h : d ≠ c) : others.countP (fun o => decide (peer d o = c)) = 1 := by
  revert d c; decide +kernel

theorem distances_self (d : Dev nD) : others.countP (fun o => decide (peer d o = d)) = 0 := by
  revert d; decide +kernel

theorem pairs_at (d c : Dev nD) (h : Fin 2) (hd : d ≠ c) : pairs.countP (fun p => decide (peer d p.2 = c ∧ p.1 = h)) = 1 := by
  revert d c h; decide +kernel

theorem pays_bar (d c : Dev nD) : pays d (c, none) = if d = c then 0 else 1 := by
  rw [pays_split, scatters_none d _ (fun j e => by cases e), gathers_none d _ (fun j e => by cases e), List.count, List.countP_map]
  have e : ((fun x : Dev nD × Cell => x == (c, none)) ∘ barDue d) = fun o => decide (peer d o = c) := by
    funext o
    exact Bool.eq_iff_iff.mpr ⟨fun h => decide_eq_true (congrArg Prod.fst (beq_iff_eq.mp h)),
      fun h => beq_iff_eq.mpr (Prod.ext (of_decide_eq_true h) rfl)⟩
  rw [e]
  by_cases h : d = c
  · subst h; rw [distances_self, if_pos rfl]
  · rw [distances d c h, if_neg h]

/-- The copies into a slot come from its owner. -/
theorem arrivals (d c s : Dev nD) (h : Fin 2) (k : Fin 4) (hs : s ≠ c) :
    (pairs.map fun p : Fin 2 × Fin 15 => ((peer d p.2, some (k, slot d p.1)) : Dev nD × Cell)).count (c, some (k, slot s h))
      = if d = s then 1 else 0 := by
  by_cases hd : d = s
  · subst hd
    rw [if_pos rfl, List.count, List.countP_map, ← pairs_at d c h hs]
    refine List.countP_congr fun p _ => ⟨fun e => decide_eq_true ?_, fun e => ?_⟩
    · have e' := beq_iff_eq.mp e
      exact ⟨congrArg Prod.fst e', (slot_inj (congrArg Prod.snd (Option.some.inj (congrArg Prod.snd e')))).2⟩
    · obtain ⟨e1, e2⟩ := of_decide_eq_true e
      exact beq_iff_eq.mpr (Prod.ext e1 (congrArg (fun h => (some (k, slot d h) : Cell)) e2))
  · rw [if_neg hd]
    refine List.count_eq_zero.mpr fun hm => ?_
    obtain ⟨p, -, e⟩ := List.mem_map.mp hm
    exact hd (slot_inj (congrArg Prod.snd (Option.some.inj (congrArg Prod.snd e)))).1

theorem pays_scatter (d c s : Dev nD) (h : Fin 2) (hs : s ≠ c) : pays d (c, some (1, slot s h)) = if d = s then 1 else 0 := by
  rw [pays_split, bars_none d _ (fun e => by cases e), gathers_none d _ (fun j e => by cases e), Nat.zero_add, Nat.add_zero]
  exact arrivals d c s h 1 hs

theorem pays_gather (d c s : Dev nD) (h : Fin 2) (hs : s ≠ c) : pays d (c, some (3, slot s h)) = if d = s then 1 else 0 := by
  rw [pays_split, bars_none d _ (fun e => by cases e), scatters_none d _ (fun j e => by cases e), Nat.zero_add, Nat.zero_add]
  exact arrivals d c s h 3 hs

/-! ## The units at a cell -/

/-- What all devices owe a cell. -/
def owedAll (c : Dev nD) (x : Cell) : ℕ := ∑ d : Dev nD, pays d (c, x) * cellUnit x

theorem owedAll_bar (c : Dev nD) : owedAll c none = 15 := by
  unfold owedAll
  rw [Finset.sum_congr rfl fun d _ => by rw [pays_bar]]
  show ∑ d : Dev nD, (if d = c then 0 else 1) * 1 = 15
  revert c; decide +kernel

theorem owedAll_one (c s : Dev nD) (k : Fin 4) (h : Fin 2)
    (hp : ∀ d, pays d (c, some (k, slot s h)) = if d = s then 1 else 0) : owedAll c (some (k, slot s h)) = unitN := by
  unfold owedAll
  rw [Finset.sum_congr rfl fun d _ => by rw [hp], Finset.sum_eq_single s (fun d _ hd => by rw [if_neg hd, Nat.zero_mul])
    (fun hn => absurd (Finset.mem_univ _) hn), if_pos rfl, Nat.one_mul]
  rfl

/-- The units owed a cell at the start. -/
theorem credit_cell (c : Dev nD) (x : Cell) :
    tallyOn (kcell (c, x)) (launchCredit (Pipeline.owing fun d => owedL (dues d)) 0 (kcell (c, x)))
      = (tallyAt (kcell (c, x)) () (owedAll c x) : CellTallies nD τ sig Unit) := by
  unfold tallyAt; refine congrArg _ (Finsupp.ext fun u => ?_); cases u
  rw [Pipeline.launchCredit_owing, Finsupp.single_eq_same]
  exact Finset.sum_congr rfl fun d _ => owedL_count (dues d) (c, x)

theorem credits_cells (c : Dev nD) :
    (Pipeline.launchCred (fun d => owedL (dues d)) c : sProp 𝕄) ⊢ bigSep Finset.univ fun x : Cell => credOf (F := F) c x (owedAll c x) := by
  have h : (bigSep (Finset.univ.map ⟨csem, csem_inj⟩) fun sm : SemLoc sig =>
        (cred (tallyOn ((c : Thread nD τ), sm) (launchCredit (Pipeline.owing fun d => owedL (dues d)) 0 ((c : Thread nD τ), sm))) : sProp 𝕄))
      = bigSep Finset.univ fun x : Cell => credOf (F := F) c x (owedAll c x) := by
    rw [bigSep_map]
    exact bigSep_congr fun x _ => congrArg cred (credit_cell c x)
  unfold Pipeline.launchCred
  rw [← h]
  exact BI.bigSep_subset (Finset.subset_univ _)

theorem credits_intro (c : Dev nD) : (Pipeline.launchCred (fun d => owedL (dues d)) c : sProp 𝕄) ⊢ credits (F := F) c := by
  have h1 : (bigSepL pairs fun p => credOf (F := F) c (some (1, slot (peer c p.2) p.1)) (owedAll c (some (1, slot (peer c p.2) p.1))))
      = bigSepL pairs fun p => credOf (F := F) c (some (1, slot (peer c p.2) p.1)) unitN :=
    congrArg (bigSepL pairs) (funext fun p => by
      rw [owedAll_one c (peer c p.2) 1 p.1 fun d => pays_scatter d c _ _ (peer_ne c p.2)])
  have h3 : (bigSepL pairs fun p => credOf (F := F) c (some (3, slot (peer c p.2) p.1)) (owedAll c (some (3, slot (peer c p.2) p.1))))
      = bigSepL pairs fun p => credOf (F := F) c (some (3, slot (peer c p.2) p.1)) unitN :=
    congrArg (bigSepL pairs) (funext fun p => by
      rw [owedAll_one c (peer c p.2) 3 p.1 fun d => pays_gather d c _ _ (peer_ne c p.2)])
  have h := credits_cells (F := F) c
  rw [split_cells, split_slots c fun j => credOf (F := F) c (some (1, j)) (owedAll c (some (1, j))),
    split_slots c fun j => credOf (F := F) c (some (3, j)) (owedAll c (some (3, j))), h1, h3, owedAll_bar] at h
  iintro H
  ihave H := h $$ H
  icases H with ⟨Hb, -, ⟨H1, -⟩, -, H3, -⟩
  unfold credits
  isplitl [Hb]; · iexact Hb
  isplitl [H1] <;> iassumption

end Cert.KernelIdeal.Looped

end
-- ==== Proof.Run.lean ====
/-
The kernel on all sixteen devices: from any memory whose semaphores read zero, every run ends with each device's result
holding what `outC` says, its argument unchanged, and every semaphore at zero again.
-/
module

public import proofs.«01_k».proof.Proof.Credit
public import proofs.«01_k».proof.Proof.Gen.KernelIdeal.Points
public import Idealize.ShloMosaic.Lib.Pipeline.Value

@[expose] public section

noncomputable section

namespace Cert.KernelIdeal.Looped

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The memory at the start: semaphores at zero. -/
abbrev start : MemSt nD τ sig (Elt F) := ⟨m, fun _ => 0, ρ⟩

/-- What the devices are given. -/
def given (c : Dev nD) : Vec F S1024x512 .bf16 :=
  (win0_0.blk (0 : Fin 1)).view.read (Elt F) (m ((c : Thread nD τ).loc main_arg0))

/-! ## The one point of the kernel's grid -/

/-- What a device holds before the kernel's body, buffers apart. -/
def before (c : Dev nD) : sProp 𝕄 :=
  iprop((∃ K, entry (given m) K c) ∗ credits (F := F) c ∗ levAts L lv)

/-- What a device holds after it: its scratch buffers and its semaphores, back at zero. -/
def after (c : Dev nD) : sProp 𝕄 :=
  iprop(scratch (F := F) c ∗ bigSep Finset.univ fun x : Cell => semVal (kcell (c, x)) 0)

def point (_ : Fin 1) (c : Dev nD) : Dat τ (Elt F) Unit ℕ UU ℕ cfg0 c where
  A w := m ((cfg0.win w).arr.view.loc (c : Thread nD τ))
  after w _ := match w with
    | ⟨0, _⟩ => given m c
    | ⟨1, _⟩ => outC (given m) c
  Φ t := match t with
    | ⟨0, _⟩ => iprop(before m c ∗ scratch (F := F) c)
    | ⟨_ + 1, _⟩ => after (F := F) c
  q _ := fullShare
  owed t := match t with
    | ⟨0, _⟩ => owedL (dues c)
    | ⟨_ + 1, _⟩ => 0

theorem owns_whole (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ (((c : Thread nD τ).loc b) ↦{fullShare} g)) := by
  unfold owns; simp only [Memref.view_whole, View.read_whole, View.set_whole]

/-- A buffer held with the named contents. -/
abbrev held (c : Dev nD) (b : Ref sig .tc) (f : b.ty.Contents (Elt F)) : sProp 𝕄 :=
  iprop(∃ g : Buf (Elt F) ((c : Thread nD τ).loc b), ⌜g = f⌝ ∗ (((c : Thread nD τ).loc b) ↦{fullShare} g))

/-- Every cell taken to its end reads zero. -/
theorem cells_close (K : Dev nD × Cell → ℕ) (c : Dev nD) :
    iprop(Know (given m) K ∗ bigSep Finset.univ fun x : Cell => over (given m) c x)
      ⊢ |={Set.univ}=> bigSep Finset.univ fun x : Cell => (semVal (kcell (c, x)) 0 : sProp 𝕄) := by
  have h (x : Cell) : iprop(Know (given m) K ∗ over (given m) c x) ⊢ |={Set.univ}=> (semVal (kcell (c, x)) 0 : sProp 𝕄) := by
    unfold over
    iintro ⟨#HI, %R, %hR, Hp⟩
    ihave HC := (know_cell (given m) K (c, x)) $$ HI
    icases HC with ⟨#Hinv, -⟩
    iapply (Rounds.cell_close ER (proto (given m)) (Set.mem_univ (K (c, x))) (fun h => h) (R := R) hR)
    isplitr; · iexact Hinv
    iexact Hp
  exact (BI.bigSep_with_persistent (S := Finset.univ) (R := Know (given m) K) (Φ := fun x : Cell => over (given m) c x)
    (Ψ := fun x : Cell => iprop(|={Set.univ}=> (semVal (kcell (c, x)) 0 : sProp 𝕄))) fun x _ => h x).trans (bigSep_fupd _ _)

theorem runs_update {α : Type} {c : Dev nD} {p : Prog (Ops F) α} {Q : α → sProp 𝕄} :
    Runs c p (fun a => iprop(|={Set.univ}=> Q a)) ⊢ Runs c p Q :=
  wp_fupd frame (wpE (defs₀ (F := F)) 𝒱₀ (c : Thread nD τ) none) Set.univ p Q

/-- The body on a device, from what it is dealt to its semaphores back at zero. -/
theorem device_runs (c : Dev nD) (harg2 harg3 harg4) :
    iprop((before m c ∗ scratch (F := F) c) ∗ Owes c (dues c) ∗ (((c : Thread nD τ).loc cc0_stg0_0) ↦{fullShare} given m c)
        ∗ ∃ f : Rows F, ((c : Thread nD τ).loc cc0_stg1_0) ↦{fullShare} f)
      ⊢ Runs c (looped (F := F) (Memref.whole cc0_stg0_0) outM stageM recvM gathM cc0_scratch3 cc0_scratch4 cc0_scratch5
          cc0_scratch6 harg2 harg3 harg4)
          fun _ => iprop(after (F := F) c ∗ Owes c [] ∗ (((c : Thread nD τ).loc cc0_stg0_0) ↦{fullShare} given m c)
            ∗ (((c : Thread nD τ).loc cc0_stg1_0) ↦{fullShare} outC (given m) c)) := by
  unfold before entry
  iintro ⟨⟨⟨⟨%K, #HR, Hp, Ht⟩, Hc, #HL⟩, Hs⟩, HO, Hx, Hout⟩
  ihave #HI : Know (given m) K $$ [HR HL]
  · unfold Know
    isplitr; · iexact HR
    iexact HL
  iapply runs_update
  iapply runs_wand
  isplitl [Hp Ht Hc Hs HO Hx Hout]
  · iapply (body_runs (given m) K c harg2 harg3 harg4)
    isplitr; · iexact HI
    isplitl [HO]; · iexact HO
    isplitl [Ht]; · iexact Ht
    isplitl [Hc]; · iexact Hc
    isplitl [Hp]; · iexact Hp
    isplitl [Hs]; · iexact Hs
    isplitl [Hx] <;> iassumption
  iintro %_ ⟨HO, Hov, Hs, Hx, Hout⟩
  imod (cells_close m K c) $$ [Hov] with Hz
  · isplitr; · iexact HI
    iexact Hov
  imodintro
  unfold after
  isplitl [Hs Hz]
  · isplitl [Hs] <;> iassumption
  isplitl [HO]; · iexact HO
  isplitl [Hx] <;> iassumption

end Cert.KernelIdeal.Looped

end
-- ==== Proof.Whole.lean ====
/-
The launch: the kernel's body on every device, and what every run of the whole program leaves.
-/
module

public import proofs.«01_k».proof.Proof.Run
public import Idealize.ShloMosaic.Lib.Pipeline.CollectiveSegs

@[expose] public section

noncomputable section

namespace Cert.KernelIdeal.Looped

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The body as the launch asks for it -/

def bodyPre (c : Dev nD) : sProp 𝕄 :=
  iprop((before m c ∗ scratch (F := F) c) ∗ (point m 0 c).owesAt () t0_0.castSucc
    ∗ (∃ d, held c cc0_stg0_0 ((point m 0 c).before (0 : Fin 2) t0_0 d))
    ∗ (∃ d, held c cc0_stg1_0 ((point m 0 c).before (1 : Fin 2) t0_0 d)))

def bodyPost (c : Dev nD) : sProp 𝕄 :=
  iprop(after (F := F) c ∗ (point m 0 c).owesAt () t0_0.succ ∗ held c cc0_stg0_0 (given m c) ∗ held c cc0_stg1_0 (outC (given m) c))

theorem point_owed_first (c : Dev nD) : (point m 0 c).owed t0_0.castSucc = owedL (dues c) := rfl
theorem point_owed_last (c : Dev nD) : (point m 0 c).owed t0_0.succ = 0 := rfl

theorem before_given (c : Dev nD) (d) : (point m 0 c).before (0 : Fin 2) t0_0 d = given m c := by
  unfold Dat.before; rw [if_pos (fetch0_0 t0_0)]; rfl

theorem body_point (c : Dev nD) (harg2 harg3 harg4) :
    bodyPre m c ⊢ Runs c (looped (F := F) (Memref.whole cc0_stg0_0) outM stageM recvM gathM cc0_scratch3 cc0_scratch4 cc0_scratch5
      cc0_scratch6 harg2 harg3 harg4) fun _ => bodyPost m c := by
  unfold bodyPre
  iintro ⟨Hb, HO, ⟨%d0, %g0, %hg0, Hx⟩, ⟨%d1, %g1, -, Hout⟩⟩
  rw [before_given] at hg0
  subst hg0
  unfold Dat.owesAt Pipeline.owesWithin
  icases HO with ⟨%W, -, HO⟩
  rw [point_owed_first]
  iapply runs_wand
  isplitl [Hb HO Hx Hout]
  · iapply (device_runs m c harg2 harg3 harg4)
    isplitl [Hb]; · iexact Hb
    isplitl [HO]
    · unfold Owes; iexists W; iexact HO
    isplitl [Hx]; · iexact Hx
    iexists g1; iexact Hout
  iintro %_ ⟨Ha, HO, Hx, Hout⟩
  unfold bodyPost Dat.owesAt Pipeline.owesWithin Owes
  icases HO with ⟨%W', HO⟩
  rw [point_owed_last]
  isplitl [Ha]; · iexact Ha
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

theorem windows (Φ : Fin cfg0.W → sProp 𝕄) : bigSep Finset.univ Φ = iprop(Φ (0 : Fin 2) ∗ Φ (1 : Fin 2)) := bigSep_W0 Φ

set_option maxRecDepth 40000 in
theorem body_obligation (c : Dev nD) : BodyObligation (point (F := F) m 0 c) (defs₀ (F := F)) 𝒱₀ () Set.univ := fun t => by
  rw [fin_N0 t]
  rw [windows, windows]
  simp only [owns_whole]
  show bodyPre m c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => bodyPost m c)
  rw [cc0_body_eq_looped]
  exact body_point m c _ _ _

/-! ## The launch -/

theorem share_full (c : Dev nD) (w : Fin cfg0.W) : (point m 0 c).share w = fullShare := by unfold Dat.share; split <;> rfl

/-- The protocol's resources at the launch. -/
def funds : UU :=
  (initOf (Pipeline.cells cfgs cellOf_inj) (Pipeline.launchToks cfgs cellOf_inj), initOf cells rights)

theorem before_intro (c : Dev nD) :
    iprop(Pipeline.unscopedRestP Pipeline.Prefetch.none cfg0.spec c (fun b => m ((c : Thread nD τ).loc b)) ∗ levAts L lv
        ∗ Pipeline.launchCred (fun d => owedL (dues d)) c ∗ prngReg c (ρ c) ∗ (∃ K, entry (given m) K c))
      ⊢ |={Set.univ}=> iprop(before m c ∗ emp) := by
  iintro ⟨-, HL, Hc, -, HE⟩
  ihave Hc := (credits_intro (F := F) c) $$ Hc
  imodintro
  unfold before
  isplitl
  · isplitl [HE]; · iexact HE
    isplitl [Hc] <;> iassumption
  · iempintro

theorem first_intro (c : Dev nD) :
    iprop(before m c ∗ Pipeline.prefHeld Pipeline.Prefetch.none c (fun _ => fullShare.right) (fun k => k.elim0) ∗ Pipeline.scopedRest cfg0.spec c)
      ⊢ (point m 0 c).Φ 0 := by
  rw [show (point m 0 c).Φ 0 = iprop(before m c ∗ scratch (F := F) c) from rfl, scopedRest0_eq]
  unfold scratch
  iintro ⟨Hb, -, Hs⟩
  isplitl [Hb] <;> iassumption

theorem last_exit (c : Dev nD) :
    (point m 0 c).Φ (Fin.last cfg0.N) ⊢ iprop(unscopedSems0 c ∗ Pipeline.ownSems0 osem c ∗ Pipeline.scopedRest cfg0.spec c) := by
  rw [show (point m 0 c).Φ (Fin.last cfg0.N) = after (F := F) c from rfl, scopedRest0_eq]
  unfold after scratch
  rw [sems_eq]
  iintro ⟨Hs, Hu, Ho⟩
  isplitl [Hu]; · iexact Hu
  isplitl [Ho] <;> iassumption

theorem dues_level (c : Dev nD) : ∀ y ∈ dues c, 0 < cellLevel y.2 := by
  intro y hy
  rcases List.mem_append.mp hy with hy | hy
  · obtain ⟨o, -, rfl⟩ := List.mem_map.mp hy
    show 0 < 1
    decide
  · exact Nat.lt_trans Nat.one_pos (dues_bar_level c y hy)

/-- The staging copies' semaphores are below everything owed. -/
theorem stage_level (c : Dev nD) (w : Fin 2) (s) : lv ((c : Thread nD τ), .dma ((win0 w).sem s)) () = 0 := by
  fin_cases w <;> fin_cases s <;> rfl

theorem waits (c : Dev nD) : (levAts L lv : sProp 𝕄) ⊢ Pipeline.cellsWaits cfgs (point m) () 0 c :=
  Pipeline.cellsWaits_intro cfgs (point m) () 0 c fun w s t => by
    rcases t with ⟨_ | _, ht⟩
    · exact mayWait_below c _ (dues c) fun y hy => by rw [stage_level]; exact dues_level c y hy
    · exact mayWait_below c _ [] fun y hy => absurd hy List.not_mem_nil

/-! ## The run -/

/-- Every windowed array ends as the body leaves it. -/
def ends (r : PUnit × MemSt nD τ sig (Elt F)) : Prop :=
  ∀ c : Dev nD, ∀ w : Fin cfg0.W, r.2.mem ((cfg0.win w).arr.view.loc (c : Thread nD τ)) = (point m 0 c).arrAt w cfg0.N

set_option maxRecDepth 40000 in
theorem run_point : θ_run defs (onTc (τ := τ) (main (F := F))) (start m ρ) (fun r => ends m r ∧ r.2.sem = fun _ => 0) :=
  Pipeline.θ_run_region_owing_glob_pf (fun p => (cfgs p).toPCfg) (fun p => (cfgs p).toPCfg_adm) (point m) () cellOf_inj (0 : Fin 1)
    winFacts0.to₀ own_facts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_full m) (hdistinct := winFacts0.arr_inj)
    (O₀ := fun d => owedL (dues d)) (howed₀ := fun _ => rfl) (howedN := fun _ => rfl)
    (L := L) (lv := lv) (hL := L_of_ne) (hwaits := waits m)
    (G := dealt (given m)) (G' := fun c => iprop(∃ K, entry (given m) K c)) (u₀ := funds)
    (hu₀ := by
      unfold funds
      iintro Hu
      ihave H := (ownU_pair _ _) $$ Hu
      icases H with ⟨HP, HX⟩
      imod (deal (given m)) $$ HX with HG
      imodintro
      isplitl [HP] <;> iassumption)
    (hglob := setup (given m))
    (hA := fun _ _ => rfl) (hpf := fun _ k => k.elim0)
    (X := before m) (Y := fun c => unscopedSems0 c) (Z := fun _ => iprop(emp))
    (hX := before_intro m ρ) (hin := first_intro m) (hout := last_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold at the end -/

/-- The pipeline's one block of each array is the whole array: an index of the block is that index of the array. -/
theorem emb_in (i : S1024x512.Idx) : (win0_0.blk (0 : Fin 1)).view.emb i = i := by
  funext a
  refine Fin.ext ?_
  fin_cases a
  · show 0 + 1 * (i 0 : ℕ) = (i 0 : ℕ)
    omega
  · show 0 + 1 * (i 1 : ℕ) = (i 1 : ℕ)
    omega

theorem emb_out (i : S1024x512.Idx) : (win0_1.blk (0 : Fin 1)).view.emb i = i := by
  funext a
  refine Fin.ext ?_
  fin_cases a
  · show 0 + 1 * (i 0 : ℕ) = (i 0 : ℕ)
    omega
  · show 0 + 1 * (i 1 : ℕ) = (i 1 : ℕ)
    omega

/-- What the body is given is the device's argument. -/
theorem given_eq (c : Dev nD) : given m c = m ((c : Thread nD τ).loc main_arg0) := by
  funext i
  exact congrArg (m ((c : Thread nD τ).loc main_arg0)) (emb_in i)

/-- The result array ends as what the body leaves. -/
theorem result_end (c : Dev nD) : (point m 0 c).arrAt (1 : Fin 2) cfg0.N = outC (given m) c := by
  refine (point m 0 c).arrAt_eq_of_cover (1 : Fin 2) (outC (given m) c) (fun t _ => ?_) fun i => ?_
  · obtain rfl := fin_N0 t
    funext i
    exact (congrArg (outC (given m) c) (emb_out i)).symm
  · exact ⟨t0_0, flush0_1 _, Finset.mem_map.mpr ⟨i, Finset.mem_univ _, emb_out i⟩⟩

/-- The argument ends as it began. -/
theorem argument_end (c : Dev nD) : (point m 0 c).arrAt (0 : Fin 2) cfg0.N = m ((c : Thread nD τ).loc main_arg0) :=
  (point m 0 c).arrAt_in (0 : Fin 2) rfl _

/-- **Every run of the kernel's program ends with each device's result the reduced rows, its argument
    unchanged and every semaphore at zero.** -/
theorem run_main : θ_run defs (onTc (τ := τ) (main (F := F))) ⟨m, fun _ => 0, ρ⟩ (fun r =>
    (∀ c : Dev nD, r.2.mem (c.tc.loc main_v1) = outC (fun d => m (d.tc.loc main_arg0)) c)
      ∧ (∀ c : Dev nD, r.2.mem (c.tc.loc main_arg0) = m (c.tc.loc main_arg0)) ∧ r.2.sem = fun _ => 0) :=
  (θ_run defs _ _).mono (fun r h => ⟨fun c => (h.1 c 1).trans ((result_end m c).trans
      (congrArg (fun X => outC X c) (funext (given_eq m)))),
    fun c => (h.1 c 0).trans (argument_end m c), h.2⟩) (run_point m ρ)

end Cert.KernelIdeal.Looped

end
-- ==== Proof.Same.lean ====
/-
The kernel at the machine's float values and the kernel at any float values are one text: the two programs' body tables
are equal, so a run of the one is a run of the other.
-/
module

public import proofs.«01_k».proof.Proof.Gen.Kernel
public import proofs.«01_k».proof.Proof.Gen.KernelIdeal

@[expose] public section

noncomputable section

namespace Cert.Same

open Idealize.ShloMosaic
open Cert.Kernel.Gen Cert.KernelIdeal.Gen

variable {F : FTy → Type} [FloatOps F]

/-- The two bodies are one program. -/
theorem body_same : @Cert.KernelIdeal.cc0_body F _ _ = @Cert.Kernel.cc0_body F _ _ := rfl

/-- The tables of the bodies are equal. -/
theorem table_same : Cert.KernelIdeal.defs₀ (F := F) = Cert.Kernel.defs₀ (F := F) := by
  unfold Cert.KernelIdeal.defs₀ Cert.Kernel.defs₀
  refine congrArg Defs.onTc ?_
  funext b x
  match b, x with
  | 0, (t, s) =>
    show Cert.KernelIdeal.cc0_body (F := F) _ _ _ _ _ _ _ _ _ _ _ _ _ _ = _
    rw [body_same]

/-- And the tables with the calls' pipelines. -/
theorem defs_same : Cert.KernelIdeal.defs (F := F) = Cert.Kernel.defs (F := F) := by
  unfold Cert.KernelIdeal.defs Cert.Kernel.defs
  rw [table_same]
  rfl

end Cert.Same

end
-- ==== Proof.Sums.lean ====
/-
What the kernel's result is at the ideal float values, where a change of format changes nothing and addition may be
taken in any order: every device ends with the sum, over the devices, of their arguments.
-/
module

public import proofs.«01_k».proof.Proof.Schedule
public import Idealize.ShloMosaic.PureOps.Ideal
public import Idealize.ShloMosaic.Lib.ValueIdx
public import Idealize.ShloMosaic.Lib.ValueLayout

@[expose] public section

noncomputable section

namespace Cert.KernelIdeal.Looped

open Idealize.ShloMosaic
open Idealize.ShloMosaic.ValueIdx
open Cert.KernelIdeal.Gen

variable (X : Dev nD → FVec Ideal S1024x512 .bf16)

/-- The sum of the devices' arguments, at each element. -/
def total (i : S1024x512.Idx) : EReal := ∑ d : Dev nD, (X d i : EReal)

/-! ## Shapes -/

/-- The rows of a slot, at the rows' own index. -/
def lift3 (y : S32x512.Idx) : S1x32x512.Idx := ix3 (0 : Fin 1) (y 0) (y 1)

theorem wide_at (v : Vec Ideal S1x32x512 .bf16) (y : S32x512.Idx) : (wide v y : EReal) = v (lift3 y) := by
  unfold wide
  show shapeCast S32x512 v _ y = _
  refine shapeCast_apply v _ y (lift3 y) ?_
  rw [Shape.rowMajor_val_three, Shape.rowMajor_val_two]
  show (0 * 32 + (y 0).val) * 512 + (y 1).val = (y 0).val * 512 + (y 1).val
  omega

theorem narrow_at (v : FVec Ideal S32x512 .f32) (y : S32x512.Idx) : (narrow v (lift3 y) : EReal) = v y := by
  unfold narrow
  rw [shapeCast_self]
  show shapeCast S1x32x512 v _ (lift3 y) = _
  refine shapeCast_apply v _ (lift3 y) y ?_
  rw [Shape.rowMajor_val_three, Shape.rowMajor_val_two]
  show (y 0).val * 512 + (y 1).val = (0 * 32 + (y 0).val) * 512 + (y 1).val
  omega

/-- Slot `j` of the staging buffer is row block `j` of the argument. -/
theorem stage_at (c : Dev nD) (j : Fin 32) (y : S32x512.Idx) : (slotOf (F := Ideal) (stageC X c) j (lift3 y) : EReal) = X c (rowIdx j y) := by
  unfold slotOf stageC k0_pay1
  rw [shapeCast_self, shapeCast_self]
  refine shapeCast_apply (X c) _ _ (rowIdx j y) ?_
  rw [Shape.rowMajor_val_three, Shape.rowMajor_val_two]
  show (32 * j.val + 1 * (y 0).val) * 512 + (0 + 1 * (y 1).val)
    = ((j.val + 1 * 0) * 32 + (0 + 1 * (y 0).val)) * 512 + (0 + 1 * (y 1).val)
  omega

/-! ## The sum around the ring -/

/-- A device and the fifteen others after it are all the devices. -/
theorem ring_perm (s : Dev nD) : (s :: others.map (peer s)).Perm (List.finRange 16) := by
  revert s; decide

/-- A sum taken around the ring is the sum over the devices. -/
theorem ring_sum (s : Dev nD) (f : Dev nD → EReal) : f s + (others.map fun o => f (peer s o)).sum = ∑ d : Dev nD, f d := by
  have h := (List.Perm.map f (ring_perm s)).sum_eq
  rw [List.map_cons, List.sum_cons, List.map_map] at h
  refine h.trans ?_
  rw [← List.ofFn_eq_map, List.sum_ofFn]

/-- A running sum, read at an element. -/
theorem running_at (l : List (Fin 15)) (v : Fin 15 → Vec Ideal S1x32x512 .bf16) (w : FVec Ideal S32x512 .f32) (y : S32x512.Idx) :
    (l.foldl (fun acc o => plus acc (v o)) w y : EReal) = w y + (l.map fun o => (v o (lift3 y) : EReal)).sum := by
  induction l generalizing w with
  | nil => exact (add_zero _).symm
  | cons o l ih =>
    rw [List.foldl_cons, ih, List.map_cons, List.sum_cons, ← add_assoc]
    congr 1
    show (w y : EReal) + wide (v o) y = _
    rw [wide_at]

theorem sumOf_at (s : Dev nD) (h : Fin 2) (y : S32x512.Idx) :
    (sumOf (F := Ideal) X s h y : EReal) = total X (rowIdx (slot s h) y) := by
  unfold sumOf
  rw [running_at, wide_at, stage_at]
  simp only [recvC_slot, stage_at]
  exact ring_sum s fun d => X d (rowIdx (slot s h) y)

/-! ## The result -/

/-- Every device ends with the sum of all the devices' arguments. -/
theorem outC_total (c : Dev nD) : outC (F := Ideal) X c = total X := by
  have key (j : Fin 32) (y : S32x512.Idx) : outC (F := Ideal) X c (rowIdx j y) = total X (rowIdx j y) := by
    have e : rowsOf (outC (F := Ideal) X c) j y = total X (rowIdx j y) := by
      rw [← slot_owner j]
      by_cases hc : owner j = c
      · subst hc
        rw [outC_own]
        exact sumOf_at X _ _ y
      · rw [outC_other (F := Ideal) X c _ _ hc, gathC_slot]
        exact (wide_at _ y).trans ((narrow_at _ y).trans (sumOf_at X _ _ y))
    exact e
  funext i
  obtain ⟨y, hy⟩ := exists_rowIdx (mem_rowSet.mpr (rfl : blockOf i = blockOf i))
  exact hy ▸ key (blockOf i) y

end Cert.KernelIdeal.Looped

end
-- ==== Proof.Plain.lean ====
/-
What the reference's result is at the ideal float values: the sum, over the sixteen blocks of rows of its argument, of
the blocks.
-/
module

public import proofs.«01_k».proof.Proof.Gen.ReferenceIdeal.Run
public import Idealize.ShloMosaic.Lib.Pointwise
public import Idealize.ShloMosaic.Lib.Layout
public import Idealize.ShloMosaic.Lib.Pipeline.Value

@[expose] public section

noncomputable section

namespace Cert.ReferenceIdeal.Plain

open Idealize.ShloMosaic Idealize.SL.Sem
open Cert.ReferenceIdeal.Gen

/-- The reference's operations on its argument, in order. -/
def result (x : FVec Ideal S16384x512 .bf16) : FVec Ideal S1024x512 .f32 :=
  extf .f32 (truncf .bf16 (Host.reduceAdd (extf .f32 (shapeCast _ x shapeCasts_S16384x512_S16x1024x512) bitsLt_bf16_f32)
    (constant S_ .f32 0x00000000#32) reducesTo_S16x1024x512_S1024x512_d0 h_S_) bitsLt_bf16_f32) bitsLt_bf16_f32

/-- Element `(d, i)` of the argument cut into sixteen is element `i` of block `d`. -/
theorem cut_at (x : FVec Ideal S16384x512 .bf16) (d : Fin 16) (i : S1024x512.Idx) :
    shapeCast S16x1024x512 x shapeCasts_S16384x512_S16x1024x512 (ix3 d (i 0) (i 1))
      = (Layout.block ⟨2, ![1024, 512]⟩ ⟨2, ![16384, 512]⟩ 0 16 d x) i := by
  rw [Layout.block_apply]
  refine shapeCast_apply x _ _ _ ?_
  rw [Shape.rowMajor_val_three, Shape.rowMajor_val_two]
  show (d.val * 1024 + (i 0).val) * 512 + (i 1).val = (d.val * 1024 + (i 0).val) * 512 + (i 1).val
  rfl

/-- The reference's result is the sum of the blocks. -/
theorem result_at (x : FVec Ideal S16384x512 .bf16) (i : S1024x512.Idx) :
    (result x i : EReal) = ∑ d : Fin 16, ((Layout.block ⟨2, ![1024, 512]⟩ ⟨2, ![16384, 512]⟩ 0 16 d x) i : EReal) := by
  show Ideal.hostReduceAdd reducesTo_S16x1024x512_S1024x512_d0
    (shapeCast S16x1024x512 x shapeCasts_S16384x512_S16x1024x512) (constant (F := Ideal) S_ .f32 0x00000000#32 (Shape.Idx.first h_S_)) i = _
  have hz : (constant (F := Ideal) S_ .f32 0x00000000#32 (Shape.Idx.first h_S_) : EReal) = 0 := by
    simp only [pointwise]
  rw [Ideal.hostReduceAdd_r3_a0, hz, zero_add]
  exact Finset.sum_congr rfl fun d _ => cut_at x d i

/-- Every run of the reference ends with its result and its argument as it began; the program has no semaphore. -/
theorem run_plain (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_v4) = result (m ((c.tc : Thread nD τ).loc main_arg0)))
        ∧ (∀ c : Dev nD, r.2.mem ((c.tc : Thread nD τ).loc main_arg0) = m ((c.tc : Thread nD τ).loc main_arg0))
        ∧ r.2.sem = fun _ => 0 :=
  (θ_run defs _ _).mono (fun _ h => ⟨fun c => (h c).1, fun c => (h c).2, funext fun g => by
    rcases g with ⟨_, s | s⟩ <;> exact s.elim0⟩) (Value.run (F := Ideal) m ρ)

end Cert.ReferenceIdeal.Plain

end
-- ==== Proof.lean ====
/-
The claims, put together. The run of the kernel on the mesh is proved once, for any float values (Proof/Whole.lean): it
gives the frames of the printed kernel (by Proof/Same.lean, which says the two programs are one text) and of its ideal
reading. Proof/Sums.lean says what the kernel's result is at the ideal float values, Proof/Plain.lean what the
reference's is, and both are the sum of the sixteen blocks.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Whole
public import proofs.«01_k».proof.Proof.Same
public import proofs.«01_k».proof.Proof.Sums
public import proofs.«01_k».proof.Proof.Plain
public import Idealize.ShloMosaic.Adequacy
public import Idealize.ShloMosaic.Init

@[expose] public section

noncomputable section

namespace Cert.Proof

open Idealize.ShloMosaic Idealize.SL.Sem Cert.Kernel

/-- Every run of the printed kernel, at the machine's own float values, leaves its arguments and every semaphore as
    they were: the run is proved for any float values. -/
theorem frame_kernel : Cert.quiescent_Kernel := fun m ρ _ => by
  have h := (θ_run Cert.KernelIdeal.defs _ _).mono (fun _ h => h.2) (Cert.KernelIdeal.Looped.run_main (F := Bits) m ρ)
  rw [Cert.Same.defs_same] at h
  exact h

/-- The same of the kernel at the ideal float values. -/
theorem frame_ideal : Cert.quiescent_KernelIdeal := fun m ρ _ =>
  (θ_run Cert.KernelIdeal.defs _ _).mono (fun _ h => h.2) (Cert.KernelIdeal.Looped.run_main (F := Ideal) m ρ)

/-- And of the reference. -/
theorem frame_reference : Cert.quiescent_ReferenceIdeal := fun m ρ _ =>
  (θ_run Cert.ReferenceIdeal.defs _ _).mono (fun _ h => h.2) (Cert.ReferenceIdeal.Plain.run_plain m ρ)

/-- Where each device's argument is its block of the reference's, every device's result is the reference's: both are
    the sum of the blocks. -/
theorem value : Cert.algebraic_KernelIdeal_ReferenceIdeal := fun m ρ m' ρ' _ hm =>
  ⟨Cert.ReferenceIdeal.Plain.result (m' (((0 : Dev Cert.ReferenceIdeal.nD).tc : Thread Cert.ReferenceIdeal.nD
      Cert.ReferenceIdeal.τ).loc Cert.ReferenceIdeal.main_arg0)),
    (θ_run Cert.KernelIdeal.defs _ _).mono (fun _ h c => ⟨(h.1 c).trans (by
        rw [Cert.KernelIdeal.Looped.outC_total]
        funext i
        refine Eq.trans ?_ (Cert.ReferenceIdeal.Plain.result_at _ i).symm
        exact Finset.sum_congr rfl fun d _ => congrFun (hm d) i), h.2.1 c⟩)
      (Cert.KernelIdeal.Looped.run_main (F := Ideal) m ρ),
    (θ_run Cert.ReferenceIdeal.defs _ _).mono (fun _ h => ⟨h.1 0, h.2.1 0⟩) (Cert.ReferenceIdeal.Plain.run_plain m' ρ')⟩

/-- Everything claimed. -/
theorem claim : Cert.Claim := ⟨Cert.Kernel.Gen.facts, Cert.KernelIdeal.Gen.facts, Cert.ReferenceIdeal.Gen.facts,
  frame_kernel, frame_ideal, frame_reference, trivial, value⟩

end Cert.Proof

end
